-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gates_nonneg : Cert.Pre_gates_nonneg.Facts),
    quiescent_Kernel (hKernel := hKernel)
    ∧ quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_gates_nonneg (hKernelIdeal := hKernelIdeal) (hReferenceIdeal := hReferenceIdeal) (hPre_gates_nonneg := hPre_gates_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_gates_nonneg.lean ====
abbrev S4x8192x1024 : Shape := ⟨3, ![4, 8192, 1024]⟩
abbrev S4x8192x32 : Shape := ⟨3, ![4, 8192, 32]⟩
abbrev S4x1x1024 : Shape := ⟨3, ![4, 1, 1024]⟩
abbrev S32x1024x256 : Shape := ⟨3, ![32, 1024, 256]⟩
abbrev S32x256x1024 : Shape := ⟨3, ![32, 256, 1024]⟩
abbrev S_ : Shape := ⟨0, ![]⟩

class Facts : Prop where
  bcast_S_S4x8192x32 : S_.BroadcastsInDim S4x8192x32 (![] : Fin 0 → Fin S4x8192x32.rank)

variable [Facts]

def fn {F : FTy → Type} [FloatOps F] (main_arg0 : FVec F S4x8192x1024 .f32) (main_arg1 : FVec F S4x8192x1024 .f32) (main_arg2 : FVec F S4x8192x32 .f32) (main_arg3 : FVec F S4x1x1024 .f32) (main_arg4 : FVec F S32x1024x256 .f32) (main_arg5 : FVec F S32x1024x256 .f32) (main_arg6 : FVec F S32x256x1024 .f32) : IVec S4x8192x32 1 :=
  let main_cst : FVec F S_ .f32 := constant S_ .f32 0x00000000#32
  let main_v0 : FVec F S4x8192x32 .f32 := broadcastInDim S4x8192x32 ![] bcast_S_S4x8192x32 main_cst
  let main_v1 : IVec S4x8192x32 1 := cmpf .oge main_arg2 main_v0
  let main_cst_0 : FVec F S_ .f32 := constant S_ .f32 0x7F800000#32
  let main_v2 : FVec F S4x8192x32 .f32 := broadcastInDim S4x8192x32 ![] bcast_S_S4x8192x32 main_cst_0
  let main_v3 : IVec S4x8192x32 1 := cmpf .olt main_arg2 main_v2
  let main_v4 : IVec S4x8192x32 1 := andi main_v1 main_v3
  main_v4
-- ==== Kernel.lean ====
abbrev S4x8192x1024 : Shape := ⟨3, ![4, 8192, 1024]⟩
abbrev S4x8192x32 : Shape := ⟨3, ![4, 8192, 32]⟩
abbrev S4x1x1024 : Shape := ⟨3, ![4, 1, 1024]⟩
abbrev S32x1024x256 : Shape := ⟨3, ![32, 1024, 256]⟩
abbrev S32x256x1024 : Shape := ⟨3, ![32, 256, 1024]⟩
abbrev S_ : Shape := ⟨0, ![]⟩
abbrev S4x8192x96 : Shape := ⟨3, ![4, 8192, 96]⟩
abbrev S4x8192x128 : Shape := ⟨3, ![4, 8192, 128]⟩
abbrev S32x1024x512 : Shape := ⟨3, ![32, 1024, 512]⟩
abbrev S1x1024x1024 : Shape := ⟨3, ![1, 1024, 1024]⟩
abbrev S1x1024x128 : Shape := ⟨3, ![1, 1024, 128]⟩
abbrev S1x1x1024 : Shape := ⟨3, ![1, 1, 1024]⟩
abbrev S1x1024x512 : Shape := ⟨3, ![1, 1024, 512]⟩
abbrev S1x256x1024 : Shape := ⟨3, ![1, 256, 1024]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S256x1024 : Shape := ⟨2, ![256, 1024]⟩
abbrev S1x1024 : Shape := ⟨2, ![1, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x32, .f32⟩
  | .hbm, ⟨3, _⟩ => ⟨S4x1x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S_, .f32⟩
  | .hbm, ⟨8, _⟩ => ⟨S4x8192x96, .f32⟩
  | .hbm, ⟨9, _⟩ => ⟨S4x8192x128, .f32⟩
  | .hbm, ⟨10, _⟩ => ⟨S32x1024x512, .f32⟩
  | .hbm, ⟨11, _⟩ => ⟨S32x1024x512, .bf16⟩
  | .hbm, ⟨12, _⟩ => ⟨S4x8192x1024, .bf16⟩
  | .hbm, ⟨13, _⟩ => ⟨S32x256x1024, .bf16⟩
  | .hbm, ⟨14, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 32], ![false, false, false]⟩

def k0_cond2 (i : grid0.Coords) : BitVec 1 :=
  let arg2 : BitVec 32 := BitVec.ofNat 32 (i 2).val
  let c31_i32 : BitVec 32 := 31#32
  let v33 : BitVec 1 := Scalar.cmpi .eq arg2 c31_i32
  let v34 : BitVec 32 := Scalar.extui v33
  let c0_i32_19 : BitVec 32 := 0#32
  let v35 : BitVec 1 := Scalar.cmpi .ne v34 c0_i32_19
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4x8192x1024 : Shape := ⟨3, ![4, 8192, 1024]⟩
abbrev S4x8192x32 : Shape := ⟨3, ![4, 8192, 32]⟩
abbrev S4x1x1024 : Shape := ⟨3, ![4, 1, 1024]⟩
abbrev S32x1024x256 : Shape := ⟨3, ![32, 1024, 256]⟩
abbrev S32x256x1024 : Shape := ⟨3, ![32, 256, 1024]⟩
abbrev S32768x1024 : Shape := ⟨2, ![32768, 1024]⟩
abbrev S32768x32 : Shape := ⟨2, ![32768, 32]⟩
abbrev S32768x32x256 : Shape := ⟨3, ![32768, 32, 256]⟩
abbrev S32x32768x256 : Shape := ⟨3, ![32, 32768, 256]⟩
abbrev S_ : Shape := ⟨0, ![]⟩
abbrev S32x32768 : Shape := ⟨2, ![32, 32768]⟩
abbrev S32x32768x1 : Shape := ⟨3, ![32, 32768, 1]⟩
abbrev S32x32768x1024 : Shape := ⟨3, ![32, 32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x32, .f32⟩
  | .hbm, ⟨3, _⟩ => ⟨S4x1x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S32768x1024, .f32⟩
  | .hbm, ⟨8, _⟩ => ⟨S32768x32, .f32⟩
  | .hbm, ⟨9, _⟩ => ⟨S32768x32x256, .f32⟩
  | .hbm, ⟨10, _⟩ => ⟨S32x32768x256, .f32⟩
  | .hbm, ⟨11, _⟩ => ⟨S32x32768x256, .f32⟩
  | .hbm, ⟨12, _⟩ => ⟨S32x32768x256, .f32⟩
  | .hbm, ⟨13, _⟩ => ⟨S_, .f32⟩
  | .hbm, ⟨14, _⟩ => ⟨S32x32768x256, .f32⟩
  | .hbm, ⟨15, _⟩ => ⟨S32x32768x256, .f32⟩
  | .hbm, ⟨16, _⟩ => ⟨S_, .f32⟩
  | .hbm, ⟨17, _⟩ => ⟨S32x32768x256, .f32⟩
  | .hbm, ⟨18, _⟩ => ⟨S32x32768x256, .f32⟩
  | .hbm, ⟨19, _⟩ => ⟨S32x32768x256, .f32⟩
  | .hbm, ⟨20, _⟩ => ⟨S32768x32x256, .f32⟩
  | .hbm, ⟨21, _⟩ => ⟨S32x32768x256, .f32⟩
  | .hbm, ⟨22, _⟩ => ⟨S32x32768x256, .f32⟩
  | .hbm, ⟨23, _⟩ => ⟨S32x32768, .f32⟩
  | .hbm, ⟨24, _⟩ => ⟨S32x32768x1, .f32⟩
  | .hbm, ⟨25, _⟩ => ⟨S32x32768x1024, .f32⟩
  | .hbm, ⟨26, _⟩ => ⟨S32x32768x1024, .f32⟩
  | .hbm, ⟨27, _⟩ => ⟨S32x32768x1024, .f32⟩
  | .hbm, ⟨28, _⟩ => ⟨S_, .f32⟩
  | .hbm, ⟨29, _⟩ => ⟨S32768x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S512x1024 : Shape := ⟨2, ![512, 1024]⟩
abbrev S1x1024 : Shape := ⟨2, ![1, 1024]⟩
abbrev S4x8192x128 : Shape := ⟨3, ![4, 8192, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x1024, .bf16⟩
  | .hbm, ⟨13, _⟩ => ⟨S_, .f32⟩
  | .hbm, ⟨14, _⟩ => ⟨S1024x92, .f32⟩
  | .hbm, ⟨15, _⟩ => ⟨S1024x128, .f32⟩
  | .hbm, ⟨16, _⟩ => ⟨S_, .f32⟩
  | .hbm, ⟨17, _⟩ => ⟨S92, .f32⟩
  | .hbm, ⟨18, _⟩ => ⟨S128, .f32⟩
  | .hbm, ⟨19, _⟩ => ⟨S1x128, .f32⟩
  | .hbm, ⟨20, _⟩ => ⟨S512x1024, .bf16⟩
  | .hbm, ⟨21, _⟩ => ⟨S512x1024, .bf16⟩
  | .hbm, ⟨22, _⟩ => ⟨S1x1024, .f32⟩
  | .hbm, ⟨23, _⟩ => ⟨S4x8192x1024, .f32⟩
  | .hbm, ⟨24, _⟩ => ⟨S4x8192x1024, .bf16⟩
  | .hbm, ⟨25, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x128, .f32⟩
  | .local _ .vmem, ⟨16, _⟩ => ⟨S1x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x128, .f32⟩
  | .local _ .vmem, ⟨22, _⟩ => ⟨S1x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S4x8192x512, .f32⟩
  | .hbm, ⟨13, _⟩ => ⟨S4x8192x512, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel3.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩
abbrev S4x6144 : Shape := ⟨2, ![4, 6144]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S4x1024, .f32⟩
  | .hbm, ⟨5, _⟩ => ⟨S8x1024, .f32⟩
  | .hbm, ⟨6, _⟩ => ⟨S1x6144, .f32⟩
  | .hbm, ⟨7, _⟩ => ⟨S8x6144, .f32⟩
  | .hbm, ⟨8, _⟩ => ⟨S4x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x6144, .f32⟩
  | .hbm, ⟨13, _⟩ => ⟨S1x6144, .f32⟩
  | .hbm, ⟨14, _⟩ => ⟨S4x6144, .f32⟩
  | .hbm, ⟨15, _⟩ => ⟨S4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.M.Outs.lean ====
/- What the body leaves at a grid point, in each of its three cases, as the payloads applied to the blocks:
   the accumulator gains the tile's product for the expert, and the last expert's point writes the residual sum. -/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 400000 in
theorem sout_B (c : Dev nD) (i : grid0.Coords) (a0 : Memref sig .tc .vmem S1x1024x1024 .f32) (h0 : a0.IsWhole) (a1 : Memref sig .tc .vmem S1x1024x1024 .bf16) (h1 : a1.IsWhole) (a2 : Memref sig .tc .vmem S1x1024x128 .f32) (h2 : a2.IsWhole) (a3 : Memref sig .tc .vmem S1x1x1024 .f32) (h3 : a3.IsWhole) (a4 : Memref sig .tc .vmem S1x1024x512 .bf16) (h4 : a4.IsWhole) (a5 : Memref sig .tc .vmem S1x256x1024 .bf16) (h5 : a5.IsWhole) (a6 : Memref sig .tc .vmem S1x1024x1024 .f32) (h6 : a6.IsWhole) (a7 : Memref sig .tc .vmem S1024x1024 .f32) (h7 : a7.IsWhole) (hc0 : ¬cond0_0 i) (hc1 : ¬cond0_1 i)
    (x0 : Vec F S1x1024x1024 .f32) (x1 : Vec F S1x1024x1024 .bf16) (x2 : Vec F S1x1024x128 .f32) (x3 : Vec F S1x1x1024 .f32) (x4 : Vec F S1x1024x512 .bf16) (x5 : Vec F S1x256x1024 .bf16) (xs : Vec F S1024x1024 .f32) :
    sout0_B_0 c i a0 h0 a1 h1 a2 h2 a3 h3 a4 h4 a5 h5 a6 h6 a7 h7 hc0 hc1 x0 x1 x2 x3 x4 x5 xs = k0_pay3 i x1 x4 x2 xs x5 := by
  unfold sout0_B_0
  rw [View.read_writes_eq_canon _ _ _ (scover0_B_0 c i a0 h0 a1 h1 a2 h2 a3 h3 a4 h4 a5 h5 a6 h6 a7 h7 hc0 hc1 x0 x1 x2 x3 x4 x5 xs)]
  unfold kernelRun0_B
  dsimp only
  sl_unfold_words
  rw [View.canon_unit_zero hz2]
  simp only [View.readAt_eq_ld, h0.read_unread, h1.read_unread, h2.read_unread, h3.read_unread, h4.read_unread, h5.read_unread, h7.read_unread, View.ld_unit_zero (S := S1x1024x1024) hz3, View.ld_unit_zero (S := S1x1024x128) hz3, View.ld_unit_zero (S := S1x1x1024) hz3, View.ld_unit_zero (S := S1x1024x512) hz3, View.ld_unit_zero (S := S1x256x1024) hz3, View.ld_unit_zero (S := S1024x1024) hz2]

set_option maxHeartbeats 400000 in
theorem sout_C (c : Dev nD) (i : grid0.Coords) (a0 : Memref sig .tc .vmem S1x1024x1024 .f32) (h0 : a0.IsWhole) (a1 : Memref sig .tc .vmem S1x1024x1024 .bf16) (h1 : a1.IsWhole) (a2 : Memref sig .tc .vmem S1x1024x128 .f32) (h2 : a2.IsWhole) (a3 : Memref sig .tc .vmem S1x1x1024 .f32) (h3 : a3.IsWhole) (a4 : Memref sig .tc .vmem S1x1024x512 .bf16) (h4 : a4.IsWhole) (a5 : Memref sig .tc .vmem S1x256x1024 .bf16) (h5 : a5.IsWhole) (a6 : Memref sig .tc .vmem S1x1024x1024 .f32) (h6 : a6.IsWhole) (a7 : Memref sig .tc .vmem S1024x1024 .f32) (h7 : a7.IsWhole) (hc0 : ¬cond0_0 i) (hc1 : cond0_1 i)
    (x0 : Vec F S1x1024x1024 .f32) (x1 : Vec F S1x1024x1024 .bf16) (x2 : Vec F S1x1024x128 .f32) (x3 : Vec F S1x1x1024 .f32) (x4 : Vec F S1x1024x512 .bf16) (x5 : Vec F S1x256x1024 .bf16) (xs : Vec F S1024x1024 .f32) :
    sout0_C_0 c i a0 h0 a1 h1 a2 h2 a3 h3 a4 h4 a5 h5 a6 h6 a7 h7 hc0 hc1 x0 x1 x2 x3 x4 x5 xs = k0_pay3 i x1 x4 x2 xs x5 := by
  unfold sout0_C_0
  rw [View.read_writes_eq_canon _ _ _ (scover0_C_0 c i a0 h0 a1 h1 a2 h2 a3 h3 a4 h4 a5 h5 a6 h6 a7 h7 hc0 hc1 x0 x1 x2 x3 x4 x5 xs)]
  unfold kernelRun0_C
  dsimp only
  sl_unfold_words
  rw [View.canon_unit_zero hz2]
  simp only [View.readAt_eq_ld, h0.read_unread, h1.read_unread, h2.read_unread, h3.read_unread, h4.read_unread, h5.read_unread, h7.read_unread, View.ld_unit_zero (S := S1x1024x1024) hz3, View.ld_unit_zero (S := S1x1024x128) hz3, View.ld_unit_zero (S := S1x1x1024) hz3, View.ld_unit_zero (S := S1x1024x512) hz3, View.ld_unit_zero (S := S1x256x1024) hz3, View.ld_unit_zero (S := S1024x1024) hz2]

set_option maxHeartbeats 400000 in
theorem out_C (c : Dev nD) (i : grid0.Coords) (a0 : Memref sig .tc .vmem S1x1024x1024 .f32) (h0 : a0.IsWhole) (a1 : Memref sig .tc .vmem S1x1024x1024 .bf16) (h1 : a1.IsWhole) (a2 : Memref sig .tc .vmem S1x1024x128 .f32) (h2 : a2.IsWhole) (a3 : Memref sig .tc .vmem S1x1x1024 .f32) (h3 : a3.IsWhole) (a4 : Memref sig .tc .vmem S1x1024x512 .bf16) (h4 : a4.IsWhole) (a5 : Memref sig .tc .vmem S1x256x1024 .bf16) (h5 : a5.IsWhole) (a6 : Memref sig .tc .vmem S1x1024x1024 .f32) (h6 : a6.IsWhole) (a7 : Memref sig .tc .vmem S1024x1024 .f32) (h7 : a7.IsWhole) (hc0 : ¬cond0_0 i) (hc1 : cond0_1 i)
    (x0 : Vec F S1x1024x1024 .f32) (x1 : Vec F S1x1024x1024 .bf16) (x2 : Vec F S1x1024x128 .f32) (x3 : Vec F S1x1x1024 .f32) (x4 : Vec F S1x1024x512 .bf16) (x5 : Vec F S1x256x1024 .bf16) (xs : Vec F S1024x1024 .f32) :
    out0_C_6 c i a0 h0 a1 h1 a2 h2 a3 h3 a4 h4 a5 h5 a6 h6 a7 h7 hc0 hc1 x0 x1 x2 x3 x4 x5 xs = k0_pay1 x0 x3 (k0_pay3 i x1 x4 x2 xs x5) := by
  unfold out0_C_6
  rw [View.read_writes_eq_canon _ _ _ (cover0_C_6 c i a0 h0 a1 h1 a2 h2 a3 h3 a4 h4 a5 h5 a6 h6 a7 h7 hc0 hc1 x0 x1 x2 x3 x4 x5 xs)]
  unfold kernelRun0_C
  dsimp only
  sl_unfold_words
  rw [View.canon_unit_zero hz3]
  simp only [View.readCov_unit_zero (S := S1024x1024) _ hz2]
  simp only [View.readAt_eq_ld, h0.read_unread, h1.read_unread, h2.read_unread, h3.read_unread, h4.read_unread, h5.read_unread, h7.read_unread, View.ld_unit_zero (S := S1x1024x1024) hz3, View.ld_unit_zero (S := S1x1024x128) hz3, View.ld_unit_zero (S := S1x1x1024) hz3, View.ld_unit_zero (S := S1x1024x512) hz3, View.ld_unit_zero (S := S1x256x1024) hz3, View.ld_unit_zero (S := S1024x1024) hz2]

set_option maxHeartbeats 400000 in
theorem sout_A (c : Dev nD) (i : grid0.Coords) (a0 : Memref sig .tc .vmem S1x1024x1024 .f32) (h0 : a0.IsWhole) (a1 : Memref sig .tc .vmem S1x1024x1024 .bf16) (h1 : a1.IsWhole) (a2 : Memref sig .tc .vmem S1x1024x128 .f32) (h2 : a2.IsWhole) (a3 : Memref sig .tc .vmem S1x1x1024 .f32) (h3 : a3.IsWhole) (a4 : Memref sig .tc .vmem S1x1024x512 .bf16) (h4 : a4.IsWhole) (a5 : Memref sig .tc .vmem S1x256x1024 .bf16) (h5 : a5.IsWhole) (a6 : Memref sig .tc .vmem S1x1024x1024 .f32) (h6 : a6.IsWhole) (a7 : Memref sig .tc .vmem S1024x1024 .f32) (h7 : a7.IsWhole) (hc0 : cond0_0 i) (hc1 : ¬cond0_1 i)
    (x0 : Vec F S1x1024x1024 .f32) (x1 : Vec F S1x1024x1024 .bf16) (x2 : Vec F S1x1024x128 .f32) (x3 : Vec F S1x1x1024 .f32) (x4 : Vec F S1x1024x512 .bf16) (x5 : Vec F S1x256x1024 .bf16) :
    sout0_A_0 c i a0 h0 a1 h1 a2 h2 a3 h3 a4 h4 a5 h5 a6 h6 a7 h7 hc0 hc1 x0 x1 x2 x3 x4 x5 = k0_pay3 i x1 x4 x2 k0_pay2 x5 := by
  unfold sout0_A_0
  rw [View.read_writes_eq_canon _ _ _ (scover0_A_0 c i a0 h0 a1 h1 a2 h2 a3 h3 a4 h4 a5 h5 a6 h6 a7 h7 hc0 hc1 x0 x1 x2 x3 x4 x5)]
  unfold kernelRun0_A
  dsimp only
  sl_unfold_words
  rw [View.canon_cons_unit_zero (S := S1024x1024) hz2, View.readCov_unit_zero (S := S1024x1024) _ hz2]
  simp only [View.readAt_eq_ld, h0.read_unread, h1.read_unread, h2.read_unread, h3.read_unread, h4.read_unread, h5.read_unread, h7.read_unread, View.ld_unit_zero (S := S1x1024x1024) hz3, View.ld_unit_zero (S := S1x1024x128) hz3, View.ld_unit_zero (S := S1x1x1024) hz3, View.ld_unit_zero (S := S1x1024x512) hz3, View.ld_unit_zero (S := S1x256x1024) hz3, View.ld_unit_zero (S := S1024x1024) hz2]

end Cert.KernelIdeal.Moe
-- ==== Proof.M.Pay.lean ====
/- The body's three payloads read at an index, over the extended reals. -/
module

public import proofs.«01_k».proof.Proof.Gen.KernelIdeal.Skeleton
public import Idealize.ShloMosaic.Lib.Pointwise

@[expose] public section

set_option maxRecDepth 16384

noncomputable section

namespace Cert.KernelIdeal.Moe

open Cert.KernelIdeal Cert.KernelIdeal.Gen Idealize.ShloMosaic

theorem pay2_at (r l : Fin 1024) : (k0_pay2 (F := Ideal)) (ix2 r l) = 0 := by
  pointwise [Gen.k0_pay2]

set_option maxHeartbeats 400000 in
theorem pay1_at (x : Vec Ideal S1x1024x1024 .f32) (g2 : Vec Ideal S1x1x1024 .f32) (acc : Vec Ideal S1024x1024 .f32) (r l : Fin 1024) :
    (k0_pay1 x g2 acc) (ix3 0 r l) = x (ix3 0 r l) + g2 (ix3 0 0 l) * acc (ix2 r l) := by
  pointwise [Gen.k0_pay1]

/-- The lane sum of the gates, all lanes but the expert's own set to zero, is the expert's gate. -/
theorem lane_sum (e : Nat) (he : e < 32) (f : Fin 128 → EReal) :
    (∑ x : Fin 128, Scalar.select (IntOp.cmpi CmpIPredicate.eq (BitVec.ofNat 32 x.val) (BitVec.ofNat 32 e)) (f x) 0) = f ⟨e, by omega⟩ := by
  rw [Finset.sum_eq_single (⟨e, by omega⟩ : Fin 128)]
  · simp [IntOp.cmpi, Scalar.select]
  · intro x _ hx
    have hne : ¬ BitVec.ofNat 32 x.val = BitVec.ofNat 32 e := by
      intro h
      apply hx
      apply Fin.ext
      have := congrArg BitVec.toNat h
      simp only [BitVec.toNat_ofNat] at this
      have hx' := x.isLt
      show x.val = e
      omega
    have hb : (BitVec.ofNat 32 x.val == BitVec.ofNat 32 e) = false := beq_false_of_ne hne
    simp [IntOp.cmpi, Scalar.select, hb]
  · intro h; exact absurd (Finset.mem_univ _) h

/-- One expert's product for a row and column of the tile: the gated activation, weighted by the gate, by the down weights. -/
def part (h : Vec Ideal S1x1024x1024 .bf16) (wgu : Vec Ideal S1x1024x512 .bf16) (gt : EReal) (wd : Vec Ideal S1x256x1024 .bf16) (r l : Fin 1024) : EReal :=
  ∑ x : Fin 256,
    (((∑ k : Fin 1024, h (ix3 0 r k) * wgu (ix3 0 k ⟨x.val, by omega⟩)) * Ideal.logistic (∑ k : Fin 1024, h (ix3 0 r k) * wgu (ix3 0 k ⟨x.val, by omega⟩))
      * ∑ k : Fin 1024, h (ix3 0 r k) * wgu (ix3 0 k ⟨256 + x.val, by omega⟩)) * gt) * wd (ix3 0 x l)

set_option maxHeartbeats 400000 in
theorem pay3_at (i : grid0.Coords) (h : Vec Ideal S1x1024x1024 .bf16) (wgu : Vec Ideal S1x1024x512 .bf16) (gt : Vec Ideal S1x1024x128 .f32)
    (acc : Vec Ideal S1024x1024 .f32) (wd : Vec Ideal S1x256x1024 .bf16) (r l : Fin 1024) (e : Nat) (he : e < 32) (hi : (i 2).val = e) :
    (k0_pay3 i h wgu gt acc wd) (ix2 r l) = acc (ix2 r l) + part h wgu (gt (ix3 0 r ⟨e, by omega⟩)) wd r l := by
  pointwise [Gen.k0_pay3]
  rw [hi, lane_sum e he (fun x => gt (ix3 0 r x))]
  rfl

end Cert.KernelIdeal.Moe
-- ==== Proof.M.Blocks.lean ====
/- The kernel's input blocks at a grid point, read at an index as the arguments: the point's batch, token tile and expert. -/
module

public import proofs.«01_k».proof.Proof.Gen.KernelIdeal.Value
public import Idealize.ShloMosaic.Lib.Pointwise
public import Idealize.ShloMosaic.Lib.StableHlo.Run

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ)

/-- The batch row, the token and the expert of a grid point. -/
def bOf (t : Fin cfg0.N) : Fin 4 := ⟨t.val / 256, by have := lt_of_lt_of_eq t.isLt N_0; omega⟩
def sOf (t : Fin cfg0.N) (r : Fin 1024) : Fin 8192 := ⟨t.val / 32 % 8 * 1024 + r.val, by have := r.isLt; omega⟩
def eOf (t : Fin cfg0.N) : Fin 32 := ⟨t.val % 32, by omega⟩

/-- The arguments' launch contents on core `c`, typed as arrays of extended reals. -/
abbrev in0 (c : Dev nD) : FVec Ideal S4x8192x1024 .f32 := m ((c : Thread nD τ).loc main_arg0)
abbrev in1 (c : Dev nD) : FVec Ideal S4x8192x1024 .f32 := m ((c : Thread nD τ).loc main_arg1)
abbrev in2 (c : Dev nD) : FVec Ideal S4x8192x32 .f32 := m ((c : Thread nD τ).loc main_arg2)
abbrev in3 (c : Dev nD) : FVec Ideal S4x1x1024 .f32 := m ((c : Thread nD τ).loc main_arg3)
abbrev in4 (c : Dev nD) : FVec Ideal S32x1024x256 .f32 := m ((c : Thread nD τ).loc main_arg4)
abbrev in5 (c : Dev nD) : FVec Ideal S32x1024x256 .f32 := m ((c : Thread nD τ).loc main_arg5)
abbrev in6 (c : Dev nD) : FVec Ideal S32x256x1024 .f32 := m ((c : Thread nD τ).loc main_arg6)

theorem V_v1 (c : Dev nD) : @Eq (FVec Ideal S4x8192x128 .f32) (V m c main_v1)
    (concatenate S4x8192x128 2 [⟨S4x8192x32, in2 m c⟩,
        ⟨S4x8192x96, broadcastInDim S4x8192x96 ![] bcast_S_S4x8192x96 (constant (F := Ideal) S_ .f32 0x00000000#32)⟩] concatenates_S4x8192x32_S4x8192x96_S4x8192x128_d2) := by
  unfold V hostOps0
  after_results
  all_goals rfl
theorem V_v3 (c : Dev nD) : @Eq (FVec Ideal S32x1024x512 .bf16) (V m c main_v3)
    (truncf .bf16 (concatenate S32x1024x512 2 [⟨S32x1024x256, in4 m c⟩,
        ⟨S32x1024x256, in5 m c⟩] concatenates_S32x1024x256_S32x1024x256_S32x1024x512_d2 : FVec Ideal S32x1024x512 .f32) bitsLt_bf16_f32) := by
  unfold V hostOps0
  after_results
  all_goals rfl
theorem V_v4 (c : Dev nD) : @Eq (FVec Ideal S4x8192x1024 .bf16) (V m c main_v4) (truncf .bf16 (in1 m c) bitsLt_bf16_f32) := by
  unfold V hostOps0
  after_results
  all_goals rfl
theorem V_v5 (c : Dev nD) : @Eq (FVec Ideal S32x256x1024 .bf16) (V m c main_v5) (truncf .bf16 (in6 m c) bitsLt_bf16_f32) := by
  unfold V hostOps0
  after_results
  all_goals rfl

theorem idx_tok : ∀ t : Fin cfg0.N, (win0_0.index t 0 = t.val / 256 ∧ win0_0.index t 1 = t.val / 32 % 8 ∧ win0_0.index t 2 = 0)
    ∧ (win0_1.index t 0 = t.val / 256 ∧ win0_1.index t 1 = t.val / 32 % 8 ∧ win0_1.index t 2 = 0)
    ∧ (win0_2.index t 0 = t.val / 256 ∧ win0_2.index t 1 = t.val / 32 % 8 ∧ win0_2.index t 2 = 0) :=
  (by decide +kernel : ∀ t : Fin grid0.N, _)
theorem idx_exp : ∀ t : Fin cfg0.N, (win0_3.index t 0 = t.val / 256 ∧ win0_3.index t 1 = 0 ∧ win0_3.index t 2 = 0)
    ∧ (win0_4.index t 0 = t.val % 32 ∧ win0_4.index t 1 = 0 ∧ win0_4.index t 2 = 0)
    ∧ (win0_5.index t 0 = t.val % 32 ∧ win0_5.index t 1 = 0 ∧ win0_5.index t 2 = 0) :=
  (by decide +kernel : ∀ t : Fin grid0.N, _)

theorem blk0_at (c : Dev nD) (t : Fin cfg0.N) (r l : Fin 1024) :
    (iblk m c 0 t : Vec Ideal S1x1024x1024 .f32) (ix3 0 r l) = in0 m c (ix3 (bOf t) (sOf t r) l) := by
  obtain ⟨e0, e1, e2⟩ := (idx_tok t).1
  unfold iblk
  rw [View.read_apply]
  refine (congrFun (V_main_arg0 m c) _).trans (congrArg _ ?_)
  funext a
  apply Fin.ext
  match a with
  | ⟨0, _⟩ => show win0_0.index t 0 * 1 + 1 * 0 = t.val / 256; omega
  | ⟨1, _⟩ => show win0_0.index t 1 * 1024 + 1 * r.val = t.val / 32 % 8 * 1024 + r.val; omega
  | ⟨2, _⟩ => show win0_0.index t 2 * 1024 + 1 * l.val = l.val; omega

theorem blk1_at (c : Dev nD) (t : Fin cfg0.N) (r l : Fin 1024) :
    (iblk m c 1 t : Vec Ideal S1x1024x1024 .bf16) (ix3 0 r l) = in1 m c (ix3 (bOf t) (sOf t r) l) := by
  obtain ⟨e0, e1, e2⟩ := (idx_tok t).2.1
  unfold iblk
  rw [View.read_apply]
  refine (congrFun (V_v4 m c) _).trans ?_
  show in1 m c _ = _
  refine congrArg _ ?_
  funext a
  apply Fin.ext
  match a with
  | ⟨0, _⟩ => show win0_1.index t 0 * 1 + 1 * 0 = t.val / 256; omega
  | ⟨1, _⟩ => show win0_1.index t 1 * 1024 + 1 * r.val = t.val / 32 % 8 * 1024 + r.val; omega
  | ⟨2, _⟩ => show win0_1.index t 2 * 1024 + 1 * l.val = l.val; omega

theorem blk2_at (c : Dev nD) (t : Fin cfg0.N) (r : Fin 1024) (e : Fin 32) :
    (iblk m c 2 t : Vec Ideal S1x1024x128 .f32) (ix3 0 r ⟨e.val, by omega⟩) = in2 m c (ix3 (bOf t) (sOf t r) e) := by
  obtain ⟨e0, e1, e2⟩ := (idx_tok t).2.2
  unfold iblk
  rw [View.read_apply]
  refine (congrFun (V_v1 m c) _).trans ?_
  have hidx : (((cfg0.win 2).blk t).view.emb (ix3 0 r ⟨e.val, by omega⟩) : S4x8192x128.Idx) = ix3 (bOf t) (sOf t r) ⟨e.val, by omega⟩ := by
    funext a
    apply Fin.ext
    match a with
    | ⟨0, _⟩ => show win0_2.index t 0 * 1 + 1 * 0 = t.val / 256; omega
    | ⟨1, _⟩ => show win0_2.index t 1 * 1024 + 1 * r.val = t.val / 32 % 8 * 1024 + r.val; omega
    | ⟨2, _⟩ => show win0_2.index t 2 * 128 + 1 * e.val = e.val; omega
  refine (congrArg _ hidx).trans ?_
  pointwise

theorem blk3_at (c : Dev nD) (t : Fin cfg0.N) (l : Fin 1024) :
    (iblk m c 3 t : Vec Ideal S1x1x1024 .f32) (ix3 0 0 l) = in3 m c (ix3 (bOf t) 0 l) := by
  obtain ⟨e0, e1, e2⟩ := (idx_exp t).1
  unfold iblk
  rw [View.read_apply]
  refine (congrFun (V_main_arg3 m c) _).trans (congrArg _ ?_)
  funext a
  apply Fin.ext
  match a with
  | ⟨0, _⟩ => show win0_3.index t 0 * 1 + 1 * 0 = t.val / 256; omega
  | ⟨1, _⟩ => show win0_3.index t 1 * 1 + 1 * 0 = 0; omega
  | ⟨2, _⟩ => show win0_3.index t 2 * 1024 + 1 * l.val = l.val; omega

theorem emb4 (t : Fin cfg0.N) (k : Fin 1024) (f : Fin 512) :
    (((cfg0.win 4).blk t).view.emb (ix3 0 k f) : S32x1024x512.Idx) = ix3 (eOf t) k f := by
  obtain ⟨e0, e1, e2⟩ := (idx_exp t).2.1
  funext a
  apply Fin.ext
  match a with
  | ⟨0, _⟩ => show win0_4.index t 0 * 1 + 1 * 0 = t.val % 32; omega
  | ⟨1, _⟩ => show win0_4.index t 1 * 1024 + 1 * k.val = k.val; omega
  | ⟨2, _⟩ => show win0_4.index t 2 * 512 + 1 * f.val = f.val; omega

theorem blk4_gate (c : Dev nD) (t : Fin cfg0.N) (k : Fin 1024) (f : Fin 256) :
    (iblk m c 4 t : Vec Ideal S1x1024x512 .bf16) (ix3 0 k ⟨f.val, by omega⟩) = in4 m c (ix3 (eOf t) k f) := by
  unfold iblk
  rw [View.read_apply]
  refine (congrFun (V_v3 m c) _).trans ?_
  refine (congrArg _ (emb4 t k ⟨f.val, by omega⟩)).trans ?_
  pointwise

theorem blk4_up (c : Dev nD) (t : Fin cfg0.N) (k : Fin 1024) (f : Fin 256) :
    (iblk m c 4 t : Vec Ideal S1x1024x512 .bf16) (ix3 0 k ⟨256 + f.val, by omega⟩) = in5 m c (ix3 (eOf t) k f) := by
  unfold iblk
  rw [View.read_apply]
  refine (congrFun (V_v3 m c) _).trans ?_
  refine (congrArg _ (emb4 t k ⟨256 + f.val, by omega⟩)).trans ?_
  pointwise

theorem blk5_at (c : Dev nD) (t : Fin cfg0.N) (f : Fin 256) (l : Fin 1024) :
    (iblk m c 5 t : Vec Ideal S1x256x1024 .bf16) (ix3 0 f l) = in6 m c (ix3 (eOf t) f l) := by
  obtain ⟨e0, e1, e2⟩ := (idx_exp t).2.2
  unfold iblk
  rw [View.read_apply]
  refine (congrFun (V_v5 m c) _).trans ?_
  show in6 m c _ = _
  refine congrArg _ ?_
  funext a
  apply Fin.ext
  match a with
  | ⟨0, _⟩ => show win0_5.index t 0 * 1 + 1 * 0 = t.val % 32; omega
  | ⟨1, _⟩ => show win0_5.index t 1 * 256 + 1 * f.val = f.val; omega
  | ⟨2, _⟩ => show win0_5.index t 2 * 1024 + 1 * l.val = l.val; omega

end Cert.KernelIdeal.Moe
-- ==== Proof.M.Fold.lean ====
/- The kernel's result at an index: the residual plus the second gate times the sum over the experts. -/
module

public import proofs.«01_k».proof.Proof.M.Outs
public import proofs.«01_k».proof.Proof.M.Pay
public import proofs.«01_k».proof.Proof.M.Blocks
public import Idealize.ShloMosaic.Lib.Pipeline.ValueKit.Acc

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ)

theorem coord2 (t : Fin cfg0.N) : (grid0.coords t 2).val = t.val % 32 :=
  (Pipeline.Grid.coords_val t 2 (by decide) rfl : (grid0.coords t 2).val = t.val / 1 % 32).trans (by rw [Nat.div_one])

/-- What point `n` adds to the accumulator. -/
def addend (c : Dev nD) (n : ℕ) (j : S1024x1024.Idx) : EReal :=
  if h : n < cfg0.N then
    part (iblk m c 1 ⟨n, h⟩) (iblk m c 4 ⟨n, h⟩) (in2 m c (ix3 (bOf ⟨n, h⟩) (sOf ⟨n, h⟩ (j 0)) (eOf ⟨n, h⟩))) (iblk m c 5 ⟨n, h⟩) (j 0) (j 1)
  else 0

theorem step_at (c : Dev nD) (t : Fin cfg0.N) (acc : Vec Ideal S1024x1024 .f32) (r l : Fin 1024) :
    (k0_pay3 (grid0.coords t) (iblk m c 1 t) (iblk m c 4 t) (iblk m c 2 t) acc (iblk m c 5 t)) (ix2 r l)
      = acc (ix2 r l) + addend m c t.val (ix2 r l) := by
  rw [pay3_at (grid0.coords t) (iblk m c 1 t) (iblk m c 4 t) (iblk m c 2 t) acc (iblk m c 5 t) r l (t.val % 32) (Nat.mod_lt _ (by decide)) (coord2 t)]
  unfold addend
  rw [dif_pos t.isLt]
  exact congrArg (fun g => acc (ix2 r l) + part (iblk m c 1 t) (iblk m c 4 t) g (iblk m c 5 t) r l) (blk2_at m c t r (eOf t))

theorem snd_A (c : Dev nD) (t : Fin cfg0.N) (h0 : t.val % 32 = 0) (r l : Fin 1024) :
    (outsAt0 m c t.val t.isLt).2 (ix2 r l) = 0 + addend m c t.val (ix2 r l) := by
  rw [outsAt0_A m c t h0 (by omega)]
  dsimp only
  rw [sout_A, step_at, pay2_at]

theorem snd_step (c : Dev nD) (t : Fin cfg0.N) (h0 : ¬ t.val % 32 = 0) (r l : Fin 1024) :
    (outsAt0 m c t.val t.isLt).2 (ix2 r l)
      = (outsAt0 m c (t.val - 1) (Nat.lt_of_le_of_lt (Nat.sub_le _ _) t.isLt)).2 (ix2 r l) + addend m c t.val (ix2 r l) := by
  by_cases h1 : t.val % 32 = 31
  · rw [outsAt0_C m c t h0 h1]
    dsimp only
    rw [sout_C, step_at]
  · rw [outsAt0_B m c t h0 h1]
    dsimp only
    rw [sout_B, step_at]

/-- What the accumulator holds at a run's last point: the sum of the run's addends. -/
theorem acc_last (c : Dev nD) (t : Fin cfg0.N) (h1 : t.val % 32 = 31) (r l : Fin 1024) :
    (outsAt0 m c t.val t.isLt).2 (ix2 r l) = ∑ e : Fin 32, addend m c (32 * (t.val / 32) + e.val) (ix2 r l) := by
  have h := Pipeline.eq_sum_of_reset_step_apply_of_mod (M := EReal) (fun n h => (outsAt0 m c n h).2) 32 (fun _ => 0) (addend m c)
    (fun t h0 i => by obtain ⟨r, l, rfl⟩ : ∃ (r l : Fin 1024), i = ix2 r l := ⟨i 0, i 1, eq_ix2 i⟩; exact snd_A m c t h0 r l)
    (fun t h0 i => by obtain ⟨r, l, rfl⟩ : ∃ (r l : Fin 1024), i = ix2 r l := ⟨i 0, i 1, eq_ix2 i⟩; exact snd_step m c t h0 r l)
    t h1 (ix2 r l)
  refine h.trans ?_
  rw [zero_add, Finset.sum_range]

/-- The output block at a run's last point. -/
theorem fst_last (c : Dev nD) (t : Fin cfg0.N) (h1 : t.val % 32 = 31) (r l : Fin 1024) :
    (outsAt0 m c t.val t.isLt).1 (ix3 0 r l)
      = in0 m c (ix3 (bOf t) (sOf t r) l) + in3 m c (ix3 (bOf t) 0 l) * (outsAt0 m c t.val t.isLt).2 (ix2 r l) := by
  have h0 : ¬ t.val % 32 = 0 := by omega
  rw [outsAt0_C m c t h0 h1]
  dsimp only
  rw [out_C, sout_C, pay1_at, blk0_at, blk3_at]

/-- The gated activation of an expert for a token, at a hidden column. -/
def act (c : Dev nD) (b : Fin 4) (s : Fin 8192) (e : Fin 32) (f : Fin 256) : EReal :=
  (∑ k : Fin 1024, in1 m c (ix3 b s k) * in4 m c (ix3 e k f)) * Ideal.logistic (∑ k : Fin 1024, in1 m c (ix3 b s k) * in4 m c (ix3 e k f))
    * ∑ k : Fin 1024, in1 m c (ix3 b s k) * in5 m c (ix3 e k f)

theorem addend_at (c : Dev nD) (t : Fin cfg0.N) (h1 : t.val % 32 = 31) (e : Fin 32) (r l : Fin 1024) :
    addend m c (32 * (t.val / 32) + e.val) (ix2 r l)
      = ∑ f : Fin 256, (act m c (bOf t) (sOf t r) e f * in2 m c (ix3 (bOf t) (sOf t r) e)) * in6 m c (ix3 e f l) := by
  have hN := lt_of_lt_of_eq t.isLt N_0
  have he := e.isLt
  have hn : 32 * (t.val / 32) + e.val < cfg0.N := lt_of_lt_of_eq (by omega : _ < 1024) N_0.symm
  unfold addend
  rw [dif_pos hn]
  have hb : bOf ⟨32 * (t.val / 32) + e.val, hn⟩ = bOf t := Fin.ext (by show (32 * (t.val / 32) + e.val) / 256 = t.val / 256; omega)
  have hs : ∀ r, sOf ⟨32 * (t.val / 32) + e.val, hn⟩ r = sOf t r := fun r =>
    Fin.ext (by show (32 * (t.val / 32) + e.val) / 32 % 8 * 1024 + r.val = t.val / 32 % 8 * 1024 + r.val; omega)
  have hE : eOf ⟨32 * (t.val / 32) + e.val, hn⟩ = e := Fin.ext (by show (32 * (t.val / 32) + e.val) % 32 = e.val; omega)
  show part _ _ (in2 m c (ix3 _ (sOf _ r) _)) _ r l = _
  unfold part act
  simp only [blk1_at, blk4_gate, blk4_up, blk5_at, hb, hs, hE]

theorem gate_sum (g : EReal) (h0 : 0 ≤ g) (ht : g ≠ ⊤) {n : ℕ} (a w : Fin n → EReal) :
    ∑ f : Fin n, (a f * g) * w f = g * ∑ f : Fin n, a f * w f := by
  have key : ∀ s : Finset (Fin n), ∑ f ∈ s, (a f * g) * w f = g * ∑ f ∈ s, a f * w f := by
    intro s
    induction s using Finset.cons_induction with
    | empty => simp
    | cons x s hx ih =>
      rw [Finset.sum_cons, Finset.sum_cons, EReal.left_distrib_of_nonneg_of_ne_top h0 ht, ih, mul_comm (a x) g, mul_assoc]
  exact key Finset.univ

/-- The kernel's result array at an index, for gates that are nonnegative and finite. -/
theorem result_at (c : Dev nD) (hg : ∀ b s e, 0 ≤ in2 m c (ix3 b s e) ∧ in2 m c (ix3 b s e) ≠ ⊤) (b : Fin 4) (s : Fin 8192) (l : Fin 1024) :
    (Value.G6 m c : FVec Ideal S4x8192x1024 .f32) (ix3 b s l)
      = in0 m c (ix3 b s l) + in3 m c (ix3 b 0 l) * ∑ e : Fin 32, in2 m c (ix3 b s e) * ∑ f : Fin 256, act m c b s e f * in6 m c (ix3 e f l) := by
  have hb := b.isLt
  have hs := s.isLt
  have hl := l.isLt
  have hp : Value.pt6Of (ix3 b s l) = 32 * (8 * b.val + s.val / 1024) + 31 := by
    show 32 * (8 * (b.val / 1 - 0) + 1 * (s.val / 1024 - 0) + 1 * (l.val / 1024 - 0)) + 31 = _
    omega
  have hlt : 32 * (8 * b.val + s.val / 1024) + 31 < cfg0.N := lt_of_lt_of_eq (by omega : _ < 1024) N_0.symm
  have hloc : Value.loc6Of (ix3 b s l) = ix3 0 ⟨s.val % 1024, Nat.mod_lt _ (by decide)⟩ l := by
    funext a
    apply Fin.ext
    match a with
    | ⟨0, _⟩ => show b.val % 1 = 0; omega
    | ⟨1, _⟩ => rfl
    | ⟨2, _⟩ => show l.val % 1024 = l.val; omega
  unfold Value.G6
  rw [dif_pos (by rw [hp]; exact hlt), hloc]
  rw [← Value.outsAt0_sweep m c (Value.pt6Of (ix3 b s l)) (by rw [hp]; exact hlt)]
  have hcong : ∀ (n n' : ℕ) (h : n < cfg0.N) (h' : n' < cfg0.N), n = n' → outsAt0 m c n h = outsAt0 m c n' h' := by
    intro n n' h h' e; subst e; rfl
  rw [hcong _ _ _ hlt hp]
  have h31 : (⟨32 * (8 * b.val + s.val / 1024) + 31, hlt⟩ : Fin cfg0.N).val % 32 = 31 := by
    show (32 * (8 * b.val + s.val / 1024) + 31) % 32 = 31
    omega
  have h1 := fst_last m c ⟨32 * (8 * b.val + s.val / 1024) + 31, hlt⟩ h31 ⟨s.val % 1024, Nat.mod_lt _ (by decide)⟩ l
  have h2 := acc_last m c ⟨32 * (8 * b.val + s.val / 1024) + 31, hlt⟩ h31 ⟨s.val % 1024, Nat.mod_lt _ (by decide)⟩ l
  have hB : bOf ⟨32 * (8 * b.val + s.val / 1024) + 31, hlt⟩ = b :=
    Fin.ext (by show (32 * (8 * b.val + s.val / 1024) + 31) / 256 = b.val; omega)
  have hS : sOf ⟨32 * (8 * b.val + s.val / 1024) + 31, hlt⟩ ⟨s.val % 1024, Nat.mod_lt _ (by decide)⟩ = s :=
    Fin.ext (by show (32 * (8 * b.val + s.val / 1024) + 31) / 32 % 8 * 1024 + s.val % 1024 = s.val; omega)
  refine h1.trans ?_
  rw [h2, hB, hS]
  refine congrArg (fun z => in0 m c (ix3 b s l) + in3 m c (ix3 b 0 l) * z) (Finset.sum_congr rfl fun e _ => ?_)
  rw [addend_at m c _ h31 e, hB, hS]
  exact gate_sum _ (hg b s e).1 (hg b s e).2 (fun f => act m c b s e f) (fun f => in6 m c (ix3 e f l))

end Cert.KernelIdeal.Moe
-- ==== Proof.M.Ref.lean ====
/- The reference's result read at an index, over the extended reals. -/
module

public import proofs.«01_k».proof.Proof.Gen.ReferenceIdeal.Run
public import Idealize.ShloMosaic.Lib.Pointwise

@[expose] public section

set_option maxRecDepth 16384

noncomputable section

namespace Cert.ReferenceIdeal.Moe

open Cert.ReferenceIdeal Cert.ReferenceIdeal.Gen Idealize.ShloMosaic

/-- The reference's operations composed, of its seven arguments. -/
def term (a0 a1 : FVec Ideal S4x8192x1024 .f32) (a2 : FVec Ideal S4x8192x32 .f32) (a3 : FVec Ideal S4x1x1024 .f32)
    (a4 a5 : FVec Ideal S32x1024x256 .f32) (a6 : FVec Ideal S32x256x1024 .f32) : FVec Ideal S4x8192x1024 .f32 :=
  addf a0 (mulf (broadcastInDim S4x8192x1024 ![0, 1, 2] bcast_S4x1x1024_S4x8192x1024_0_1_2 a3) (shapeCast _ (Host.reduceAdd (mulf (broadcastInDim S32x32768x1024 ![0, 1, 2] bcast_S32x32768x1_S32x32768x1024_0_1_2 (broadcastInDim S32x32768x1 ![0, 1] bcast_S32x32768_S32x32768x1_0_1 (transpose S32x32768 [1, 0] (shapeCast _ a2 shapeCasts_S4x8192x32_S32768x32) transposes_S32768x32_S32x32768_1_0))) (Host.dotGeneral dot_S32x32768x256_S32x256x1024_S32x32768x1024_2_1_1_2_0_0 none (mulf (mulf (transpose S32x32768x256 [1, 0, 2] (Host.dotGeneral dot_S32768x1024_S32x1024x256_S32768x32x256_1_1_0_02_n_n none (shapeCast _ a1 shapeCasts_S4x8192x1024_S32768x1024) a4) transposes_S32768x32x256_S32x32768x256_1_0_2) (Host.divf (broadcastInDim S32x32768x256 ![] bcast_S_S32x32768x256 (constant S_ .f32 0x3F800000#32)) (addf (broadcastInDim S32x32768x256 ![] bcast_S_S32x32768x256 (constant S_ .f32 0x3F800000#32)) (Host.exp (Host.negf (transpose S32x32768x256 [1, 0, 2] (Host.dotGeneral dot_S32768x1024_S32x1024x256_S32768x32x256_1_1_0_02_n_n none (shapeCast _ a1 shapeCasts_S4x8192x1024_S32768x1024) a4) transposes_S32768x32x256_S32x32768x256_1_0_2)))))) (transpose S32x32768x256 [1, 0, 2] (Host.dotGeneral dot_S32768x1024_S32x1024x256_S32768x32x256_1_1_0_02_n_n none (shapeCast _ a1 shapeCasts_S4x8192x1024_S32768x1024) a5) transposes_S32768x32x256_S32x32768x256_1_0_2)) a6)) (constant S_ .f32 0x00000000#32) reducesTo_S32x32768x1024_S32768x1024_d0 h_S_) shapeCasts_S32768x1024_S4x8192x1024))

set_option maxHeartbeats 800000 in
theorem term_at (a0 a1 : FVec Ideal S4x8192x1024 .f32) (a2 : FVec Ideal S4x8192x32 .f32) (a3 : FVec Ideal S4x1x1024 .f32)
    (a4 a5 : FVec Ideal S32x1024x256 .f32) (a6 : FVec Ideal S32x256x1024 .f32) (b : Fin 4) (s : Fin 8192) (l : Fin 1024) :
    term a0 a1 a2 a3 a4 a5 a6 (ix3 b s l)
      = a0 (ix3 b s l) + a3 (ix3 b 0 l) * ∑ e : Fin 32, a2 (ix3 b s e) * ∑ f : Fin 256,
          ((∑ k : Fin 1024, a1 (ix3 b s k) * a4 (ix3 e k f)) * Ideal.logistic (∑ k : Fin 1024, a1 (ix3 b s k) * a4 (ix3 e k f))
            * ∑ k : Fin 1024, a1 (ix3 b s k) * a5 (ix3 e k f)) * a6 (ix3 e f l) := by
  pointwise [term]
  rfl

end Cert.ReferenceIdeal.Moe
-- ==== Proof.M.Pre.lean ====
/- The precondition read at an index: every gate is nonnegative and below infinity. -/
module

public import proofs.«01_k».proof.Proof.Gen.Pre_gates_nonneg
public import Idealize.ShloMosaic.Lib.Pointwise

@[expose] public section

noncomputable section

namespace Cert.Pre_gates_nonneg.Moe

open Cert.Pre_gates_nonneg Cert.Pre_gates_nonneg.Gen Idealize.ShloMosaic

theorem gates_of_fn (a0 a1 : FVec Ideal S4x8192x1024 .f32) (a2 : FVec Ideal S4x8192x32 .f32) (a3 : FVec Ideal S4x1x1024 .f32)
    (a4 a5 : FVec Ideal S32x1024x256 .f32) (a6 : FVec Ideal S32x256x1024 .f32)
    (h : fn (F := Ideal) a0 a1 a2 a3 a4 a5 a6 = fun _ => 1#1) (b : Fin 4) (s : Fin 8192) (e : Fin 32) :
    0 ≤ a2 (ix3 b s e) ∧ a2 (ix3 b s e) ≠ ⊤ := by
  have h1 := congrFun h (ix3 b s e)
  have hc : Ideal.ofBits .f32 0x7F800000#32 = ⊤ := by
    simp [Ideal.ofBits, Ideal.ieee]
  have h2 : (Ideal.cmp .oge (a2 (ix3 b s e)) (Ideal.ofBits .f32 0x00000000#32)) &&& (Ideal.cmp .olt (a2 (ix3 b s e)) (Ideal.ofBits .f32 0x7F800000#32)) = 1#1 := h1
  rw [Ideal.ofBits_zero_f32, hc] at h2
  unfold Ideal.cmp at h2
  dsimp only at h2
  by_cases p : 0 ≤ a2 (ix3 b s e)
  · by_cases q : a2 (ix3 b s e) < ⊤
    · exact ⟨p, ne_of_lt q⟩
    · rw [decide_eq_false q, decide_eq_true p] at h2
      exact absurd h2 (by decide)
  · rw [decide_eq_false p] at h2
    by_cases q : a2 (ix3 b s e) < ⊤
    · rw [decide_eq_true q] at h2
      exact absurd h2 (by decide)
    · rw [decide_eq_false q] at h2
      exact absurd h2 (by decide)

end Cert.Pre_gates_nonneg.Moe
-- ==== Proof.O.Pay.lean ====
/- The output projection's payloads read at an index, over the extended reals. -/
module

public import proofs.«01_k».proof.Proof.Gen.Kernel2Ideal.Skeleton
public import Idealize.ShloMosaic.Lib.Pointwise

@[expose] public section

set_option maxRecDepth 16384

noncomputable section

namespace Cert.Kernel2Ideal.Proj

open Cert.Kernel2Ideal Cert.Kernel2Ideal.Gen Idealize.ShloMosaic

/-- The residual sum of a tile's row and column: the two halves of the mixed width are two products. -/
def resid (at' : Vec Ideal S1x512x512 .bf16) (wa : Vec Ideal S512x1024 .bf16) (po : Vec Ideal S1x512x512 .bf16) (wp : Vec Ideal S512x1024 .bf16)
    (x : Vec Ideal S1x512x1024 .f32) (g : Vec Ideal S1x1x1024 .f32) (r : Fin 512) (l : Fin 1024) : EReal :=
  x (ix3 0 r l) + g (ix3 0 0 l) * ((∑ k : Fin 512, at' (ix3 0 r k) * wa (ix2 k l)) + ∑ k : Fin 512, po (ix3 0 r k) * wp (ix2 k l))

set_option maxHeartbeats 400000 in
theorem pay2_at (at' : Vec Ideal S1x512x512 .bf16) (wa : Vec Ideal S512x1024 .bf16) (po : Vec Ideal S1x512x512 .bf16) (wp : Vec Ideal S512x1024 .bf16)
    (x : Vec Ideal S1x512x1024 .f32) (g : Vec Ideal S1x1x1024 .f32) (r : Fin 512) (l : Fin 1024) :
    (k0_pay2 at' wa po wp x g) (ix2 r l) = resid at' wa po wp x g r l := by
  pointwise [Gen.k0_pay2]
  rfl

set_option maxHeartbeats 400000 in
theorem pay3_at (at' : Vec Ideal S1x512x512 .bf16) (wa : Vec Ideal S512x1024 .bf16) (po : Vec Ideal S1x512x512 .bf16) (wp : Vec Ideal S512x1024 .bf16)
    (x : Vec Ideal S1x512x1024 .f32) (g : Vec Ideal S1x1x1024 .f32) (r : Fin 512) (l : Fin 1024) :
    (k0_pay3 at' wa po wp x g) (ix3 0 r l) = resid at' wa po wp x g r l := by
  rw [← pay2_at]
  pointwise [Gen.k0_pay3]

set_option maxHeartbeats 400000 in
theorem pay4_at (at' : Vec Ideal S1x512x512 .bf16) (wa : Vec Ideal S512x1024 .bf16) (po : Vec Ideal S1x512x512 .bf16) (wp : Vec Ideal S512x1024 .bf16)
    (x : Vec Ideal S1x512x1024 .f32) (g : Vec Ideal S1x1x1024 .f32) (r : Fin 512) (l : Fin 1024) :
    (k0_pay4 at' wa po wp x g) (ix2 r l) = resid at' wa po wp x g r l
      * Ideal.rsqrt (Ideal.div (∑ k : Fin 1024, resid at' wa po wp x g r k * resid at' wa po wp x g r k) (Ideal.ofBits .f32 0x44800000#32)
          + Ideal.ofBits .f32 0x358637BD#32) := by
  simp only [← pay2_at]
  pointwise [Gen.k0_pay4]

set_option maxHeartbeats 400000 in
theorem pay7_at (v : FVec Ideal S512x1024 .f32) (gf : Vec Ideal S1x1024 .f32) (sc sh : Vec Ideal S1x1x1024 .f32) (r : Fin 512) (l : Fin 1024) :
    (k0_pay7 v gf sc sh) (ix3 0 r l) = v (ix2 r l) * gf (ix2 0 l) * (1 + sc (ix3 0 0 l)) + sh (ix3 0 0 l) := by
  pointwise [Gen.k0_pay7, Gen.k0_pay6, Gen.k0_pay5]

end Cert.Kernel2Ideal.Proj
-- ==== Proof.O.Blocks.lean ====
/- The output projection's input blocks at a grid point, read at an index as the arguments: the point's batch and token tile. -/
module

public import proofs.«01_k».proof.Proof.Gen.Kernel2Ideal.Value
public import Idealize.ShloMosaic.Lib.Pointwise
public import Idealize.ShloMosaic.Lib.StableHlo.Run

@[expose] public section

set_option maxRecDepth 16384

noncomputable section

namespace Cert.Kernel2Ideal.Proj

open Cert.Kernel2Ideal Cert.Kernel2Ideal.Gen Idealize.ShloMosaic Idealize.ShloMosaic.TcCoe Idealize.SL.Sem

variable (m : (ℓ : Loc nD τ sig) → Buf (Elt Ideal) ℓ)

/-- The batch row and the token of a grid point. -/
def bOf (t : Fin cfg0.N) : Fin 4 := ⟨t.val / 16, by have := lt_of_lt_of_eq t.isLt N_0; omega⟩
def sOf (t : Fin cfg0.N) (r : Fin 512) : Fin 8192 := ⟨t.val % 16 * 512 + r.val, by have := r.isLt; omega⟩

/-- The arguments' launch contents on core `c`, typed as arrays of extended reals. -/
abbrev in0 (c : Dev nD) : FVec Ideal S4x8192x1024 .f32 := m ((c : Thread nD τ).loc main_arg0)
abbrev in1 (c : Dev nD) : FVec Ideal S4x8192x512 .bf16 := m ((c : Thread nD τ).loc main_arg1)
abbrev in2 (c : Dev nD) : FVec Ideal S4x8192x512 .bf16 := m ((c : Thread nD τ).loc main_arg2)
abbrev in3 (c : Dev nD) : FVec Ideal S4x1x1024 .f32 := m ((c : Thread nD τ).loc main_arg3)
abbrev in4 (c : Dev nD) : FVec Ideal S1024 .f32 := m ((c : Thread nD τ).loc main_arg4)
abbrev in5 (c : Dev nD) : FVec Ideal S4x1x1024 .f32 := m ((c : Thread nD τ).loc main_arg5)
abbrev in6 (c : Dev nD) : FVec Ideal S4x1x1024 .f32 := m ((c : Thread nD τ).loc main_arg6)
abbrev in7 (c : Dev nD) : FVec Ideal S1024x1024 .f32 := m ((c : Thread nD τ).loc main_arg7)

theorem V_v6 (c : Dev nD) : @Eq (FVec Ideal S512x1024 .bf16) (V m c main_v6)
    (extractStridedSlice S512x1024 ![0, 0] (truncf .bf16 (in7 m c) bitsLt_bf16_f32 : FVec Ideal S1024x1024 .bf16) slices_S1024x1024_S512x1024_0_0) := by
  unfold V hostOps0
  after_results
  all_goals rfl
theorem V_v7 (c : Dev nD) : @Eq (FVec Ideal S512x1024 .bf16) (V m c main_v7)
    (extractStridedSlice S512x1024 ![512, 0] (truncf .bf16 (in7 m c) bitsLt_bf16_f32 : FVec Ideal S1024x1024 .bf16) slices_S1024x1024_S512x1024_512_0) := by
  unfold V hostOps0
  after_results
  all_goals rfl
theorem V_v8 (c : Dev nD) : @Eq (FVec Ideal S1x1024 .f32) (V m c main_v8) (broadcastInDim S1x1024 ![1] bcast_S1024_S1x1024_1 (in4 m c)) := by
  unfold V hostOps0
  after_results
  all_goals rfl

theorem idx_tok : ∀ t : Fin cfg0.N, (win0_0.index t 0 = t.val / 16 ∧ win0_0.index t 1 = t.val % 16 ∧ win0_0.index t 2 = 0)
    ∧ (win0_1.index t 0 = t.val / 16 ∧ win0_1.index t 1 = t.val % 16 ∧ win0_1.index t 2 = 0)
    ∧ (win0_2.index t 0 = t.val / 16 ∧ win0_2.index t 1 = t.val % 16 ∧ win0_2.index t 2 = 0)
    ∧ (win0_11.index t 0 = t.val / 16 ∧ win0_11.index t 1 = t.val % 16 ∧ win0_11.index t 2 = 0)
    ∧ (win0_12.index t 0 = t.val / 16 ∧ win0_12.index t 1 = t.val % 16 ∧ win0_12.index t 2 = 0) :=
  (by decide +kernel : ∀ t : Fin grid0.N, _)
theorem idx_row : ∀ t : Fin cfg0.N, (win0_5.index t 0 = t.val / 16 ∧ win0_5.index t 1 = 0 ∧ win0_5.index t 2 = 0)
    ∧ (win0_7.index t 0 = t.val / 16 ∧ win0_7.index t 1 = 0 ∧ win0_7.index t 2 = 0)
    ∧ (win0_8.index t 0 = t.val / 16 ∧ win0_8.index t 1 = 0 ∧ win0_8.index t 2 = 0) :=
  (by decide +kernel : ∀ t : Fin grid0.N, _)
theorem idx_whole : ∀ t : Fin cfg0.N, (win0_3.index t 0 = 0 ∧ win0_3.index t 1 = 0) ∧ (win0_4.index t 0 = 0 ∧ win0_4.index t 1 = 0)
    ∧ (win0_6.index t 0 = 0 ∧ win0_6.index t 1 = 0) :=
  (by decide +kernel : ∀ t : Fin grid0.N, _)

theorem blk0_at (c : Dev nD) (t : Fin cfg0.N) (r : Fin 512) (l : Fin 1024) :
    (iblk m c 0 t : Vec Ideal S1x512x1024 .f32) (ix3 0 r l) = in0 m c (ix3 (bOf t) (sOf t r) l) := by
  obtain ⟨e0, e1, e2⟩ := (idx_tok t).1
  unfold iblk
  rw [View.read_apply]
  refine (congrFun (V_main_arg0 m c) _).trans (congrArg _ ?_)
  funext a
  apply Fin.ext
  match a with
  | ⟨0, _⟩ => show win0_0.index t 0 * 1 + 1 * 0 = t.val / 16; omega
  | ⟨1, _⟩ => show win0_0.index t 1 * 512 + 1 * r.val = t.val % 16 * 512 + r.val; omega
  | ⟨2, _⟩ => show win0_0.index t 2 * 1024 + 1 * l.val = l.val; omega

theorem blk1_at (c : Dev nD) (t : Fin cfg0.N) (r k : Fin 512) :
    (iblk m c 1 t : Vec Ideal S1x512x512 .bf16) (ix3 0 r k) = in1 m c (ix3 (bOf t) (sOf t r) k) := by
  obtain ⟨e0, e1, e2⟩ := (idx_tok t).2.1
  unfold iblk
  rw [View.read_apply]
  refine (congrFun (V_main_arg1 m c) _).trans (congrArg _ ?_)
  funext a
  apply Fin.ext
  match a with
  | ⟨0, _⟩ => show win0_1.index t 0 * 1 + 1 * 0 = t.val / 16; omega
  | ⟨1, _⟩ => show win0_1.index t 1 * 512 + 1 * r.val = t.val % 16 * 512 + r.val; omega
  | ⟨2, _⟩ => show win0_1.index t 2 * 512 + 1 * k.val = k.val; omega

theorem blk2_at (c : Dev nD) (t : Fin cfg0.N) (r k : Fin 512) :
    (iblk m c 2 t : Vec Ideal S1x512x512 .bf16) (ix3 0 r k) = in2 m c (ix3 (bOf t) (sOf t r) k) := by
  obtain ⟨e0, e1, e2⟩ := (idx_tok t).2.2.1
  unfold iblk
  rw [View.read_apply]
  refine (congrFun (V_main_arg2 m c) _).trans (congrArg _ ?_)
  funext a
  apply Fin.ext
  match a with
  | ⟨0, _⟩ => show win0_2.index t 0 * 1 + 1 * 0 = t.val / 16; omega
  | ⟨1, _⟩ => show win0_2.index t 1 * 512 + 1 * r.val = t.val % 16 * 512 + r.val; omega
  | ⟨2, _⟩ => show win0_2.index t 2 * 512 + 1 * k.val = k.val; omega

theorem blk3_at (c : Dev nD) (t : Fin cfg0.N) (k : Fin 512) (l : Fin 1024) :
    (iblk m c 3 t : Vec Ideal S512x1024 .bf16) (ix2 k l) = in7 m c (ix2 ⟨k.val, by omega⟩ l) := by
  obtain ⟨e0, e1⟩ := (idx_whole t).1
  unfold iblk
  rw [View.read_apply]
  refine (congrFun (V_v6 m c) _).trans ?_
  have hidx : (((cfg0.win 3).blk t).view.emb (ix2 k l) : S512x1024.Idx) = ix2 k l := by
    funext a
    apply Fin.ext
    match a with
    | ⟨0, _⟩ => show win0_3.index t 0 * 512 + 1 * k.val = k.val; omega
    | ⟨1, _⟩ => show win0_3.index t 1 * 1024 + 1 * l.val = l.val; omega
  refine (congrArg _ hidx).trans ?_
  pointwise

theorem blk4_at (c : Dev nD) (t : Fin cfg0.N) (k : Fin 512) (l : Fin 1024) :
    (iblk m c 4 t : Vec Ideal S512x1024 .bf16) (ix2 k l) = in7 m c (ix2 ⟨512 + k.val, by omega⟩ l) := by
  obtain ⟨e0, e1⟩ := (idx_whole t).2.1
  unfold iblk
  rw [View.read_apply]
  refine (congrFun (V_v7 m c) _).trans ?_
  have hidx : (((cfg0.win 4).blk t).view.emb (ix2 k l) : S512x1024.Idx) = ix2 k l := by
    funext a
    apply Fin.ext
    match a with
    | ⟨0, _⟩ => show win0_4.index t 0 * 512 + 1 * k.val = k.val; omega
    | ⟨1, _⟩ => show win0_4.index t 1 * 1024 + 1 * l.val = l.val; omega
  refine (congrArg _ hidx).trans ?_
  pointwise

theorem blk6_at (c : Dev nD) (t : Fin cfg0.N) (l : Fin 1024) :
    (iblk m c 6 t : Vec Ideal S1x1024 .f32) (ix2 0 l) = in4 m c (ix1 l) := by
  obtain ⟨e0, e1⟩ := (idx_whole t).2.2
  unfold iblk
  rw [View.read_apply]
  refine (congrFun (V_v8 m c) _).trans ?_
  have hidx : (((cfg0.win 6).blk t).view.emb (ix2 0 l) : S1x1024.Idx) = ix2 0 l := by
    funext a
    apply Fin.ext
    match a with
    | ⟨0, _⟩ => show win0_6.index t 0 * 1 + 1 * 0 = 0; omega
    | ⟨1, _⟩ => show win0_6.index t 1 * 1024 + 1 * l.val = l.val; omega
  refine (congrArg _ hidx).trans ?_
  pointwise

theorem blk5_at (c : Dev nD) (t : Fin cfg0.N) (l : Fin 1024) :
    (iblk m c 5 t : Vec Ideal S1x1x1024 .f32) (ix3 0 0 l) = in3 m c (ix3 (bOf t) 0 l) := by
  obtain ⟨e0, e1, e2⟩ := (idx_row t).1
  unfold iblk
  rw [View.read_apply]
  refine (congrFun (V_main_arg3 m c) _).trans (congrArg _ ?_)
  funext a
  apply Fin.ext
  match a with
  | ⟨0, _⟩ => show win0_5.index t 0 * 1 + 1 * 0 = t.val / 16; omega
  | ⟨1, _⟩ => show win0_5.index t 1 * 1 + 1 * 0 = 0; omega
  | ⟨2, _⟩ => show win0_5.index t 2 * 1024 + 1 * l.val = l.val; omega

theorem blk7_at (c : Dev nD) (t : Fin cfg0.N) (l : Fin 1024) :
    (iblk m c 7 t : Vec Ideal S1x1x1024 .f32) (ix3 0 0 l) = in5 m c (ix3 (bOf t) 0 l) := by
  obtain ⟨e0, e1, e2⟩ := (idx_row t).2.1
  unfold iblk
  rw [View.read_apply]
  refine (congrFun (V_main_arg5 m c) _).trans (congrArg _ ?_)
  funext a
  apply Fin.ext
  match a with
  | ⟨0, _⟩ => show win0_7.index t 0 * 1 + 1 * 0 = t.val / 16; omega
  | ⟨1, _⟩ => show win0_7.index t 1 * 1 + 1 * 0 = 0; omega
  | ⟨2, _⟩ => show win0_7.index t 2 * 1024 + 1 * l.val = l.val; omega

theorem blk8_at (c : Dev nD) (t : Fin cfg0.N) (l : Fin 1024) :
    (iblk m c 8 t : Vec Ideal S1x1x1024 .f32) (ix3 0 0 l) = in6 m c (ix3 (bOf t) 0 l) := by
  obtain ⟨e0, e1, e2⟩ := (idx_row t).2.2
  unfold iblk
  rw [View.read_apply]
  refine (congrFun (V_main_arg6 m c) _).trans (congrArg _ ?_)
  funext a
  apply Fin.ext
  match a with
  | ⟨0, _⟩ => show win0_8.index t 0 * 1 + 1 * 0 = t.val / 16; omega
  | ⟨1, _⟩ => show win0_8.index t 1 * 1 + 1 * 0 = 0; omega
  | ⟨2, _⟩ => show win0_8.index t 2 * 1024 + 1 * l.val = l.val; omega

end Cert.Kernel2Ideal.Proj
-- ==== Proof.O.Ref.lean ====
/- The projection reference's two results read at an index, over the extended reals. -/
module

public import proofs.«01_k».proof.Proof.Gen.Reference2Ideal.Run
public import Idealize.ShloMosaic.Lib.Pointwise

@[expose] public section

set_option maxRecDepth 16384

noncomputable section

namespace Cert.Reference2Ideal.Proj

open Cert.Reference2Ideal Cert.Reference2Ideal.Gen Idealize.ShloMosaic

/-- The residual after the mixers, as the reference's operations composed. -/
def term1 (a0 : FVec Ideal S4x8192x1024 .f32) (a1 a2 : FVec Ideal S4x8192x512 .bf16) (a3 : FVec Ideal S4x1x1024 .f32)
    (a7 : FVec Ideal S1024x1024 .f32) : FVec Ideal S4x8192x1024 .f32 :=
  addf a0 (mulf (broadcastInDim S4x8192x1024 ![0, 1, 2] bcast_S4x1x1024_S4x8192x1024_0_1_2 a3) (Host.dotGeneral dot_S4x8192x1024_S1024x1024_S4x8192x1024_2_0_01_1_n_n none (concatenate S4x8192x1024 2 [⟨S4x8192x512, (extf .f32 a1 bitsLt_bf16_f32)⟩, ⟨S4x8192x512, (extf .f32 a2 bitsLt_bf16_f32)⟩] concatenates_S4x8192x512_S4x8192x512_S4x8192x1024_d2) a7))

/-- The normalised and modulated residual, as the reference's operations composed. -/
def term2 (a0 : FVec Ideal S4x8192x1024 .f32) (a1 a2 : FVec Ideal S4x8192x512 .bf16) (a3 : FVec Ideal S4x1x1024 .f32)
    (a4 : FVec Ideal S1024 .f32) (a5 a6 : FVec Ideal S4x1x1024 .f32) (a7 : FVec Ideal S1024x1024 .f32) : FVec Ideal S4x8192x1024 .bf16 :=
  truncf .bf16 (addf (mulf (mulf (mulf (term1 a0 a1 a2 a3 a7) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (term1 a0 a1 a2 a3 a7) (term1 a0 a1 a2 a3 a7)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a4))) (broadcastInDim S4x8192x1024 ![0, 1, 2] bcast_S4x1x1024_S4x8192x1024_0_1_2 (addf (broadcastInDim S4x1x1024 ![] bcast_S_S4x1x1024 (constant S_ .f32 0x3F800000#32)) a5))) (broadcastInDim S4x8192x1024 ![0, 1, 2] bcast_S4x1x1024_S4x8192x1024_0_1_2 a6)) bitsLt_bf16_f32

/-- The residual at a token and column: the mixed width's two halves, each against its half of the weights. -/
def resid (a0 : FVec Ideal S4x8192x1024 .f32) (a1 a2 : FVec Ideal S4x8192x512 .bf16) (a3 : FVec Ideal S4x1x1024 .f32)
    (a7 : FVec Ideal S1024x1024 .f32) (b : Fin 4) (s : Fin 8192) (l : Fin 1024) : EReal :=
  a0 (ix3 b s l) + a3 (ix3 b 0 l) * ((∑ k : Fin 512, a1 (ix3 b s k) * a7 (ix2 ⟨k.val, by omega⟩ l))
    + ∑ k : Fin 512, a2 (ix3 b s k) * a7 (ix2 ⟨512 + k.val, by omega⟩ l))

set_option maxHeartbeats 800000 in
theorem term1_at (a0 : FVec Ideal S4x8192x1024 .f32) (a1 a2 : FVec Ideal S4x8192x512 .bf16) (a3 : FVec Ideal S4x1x1024 .f32)
    (a7 : FVec Ideal S1024x1024 .f32) (b : Fin 4) (s : Fin 8192) (l : Fin 1024) :
    term1 a0 a1 a2 a3 a7 (ix3 b s l) = resid a0 a1 a2 a3 a7 b s l := by
  pointwise [term1]
  rfl

set_option maxHeartbeats 800000 in
theorem term2_at (a0 : FVec Ideal S4x8192x1024 .f32) (a1 a2 : FVec Ideal S4x8192x512 .bf16) (a3 : FVec Ideal S4x1x1024 .f32)
    (a4 : FVec Ideal S1024 .f32) (a5 a6 : FVec Ideal S4x1x1024 .f32) (a7 : FVec Ideal S1024x1024 .f32) (b : Fin 4) (s : Fin 8192) (l : Fin 1024) :
    term2 a0 a1 a2 a3 a4 a5 a6 a7 (ix3 b s l)
      = resid a0 a1 a2 a3 a7 b s l
        * Ideal.rsqrt (Ideal.div (∑ k : Fin 1024, resid a0 a1 a2 a3 a7 b s k * resid a0 a1 a2 a3 a7 b s k) (Ideal.ofBits .f32 0x44800000#32)
            + Ideal.ofBits .f32 0x358637BD#32) * a4 (ix1 l) * (1 + a5 (ix3 b 0 l)) + a6 (ix3 b 0 l) := by
  simp only [← term1_at]
  pointwise [term2]

end Cert.Reference2Ideal.Proj
-- ==== Proof.O.Res.lean ====
/- The output projection's two result arrays at an index: the residual, and its normalised and modulated row. -/
module

public import proofs.«01_k».proof.Proof.O.Pay
public import proofs.«01_k».proof.Proof.O.Blocks
public import proofs.«01_k».proof.Proof.O.Ref

@[expose] public section

set_option maxRecDepth 16384

noncomputable section

namespace Cert.Kernel2Ideal.Proj

open Cert.Kernel2Ideal Cert.Kernel2Ideal.Gen Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid point of a batch row and token. -/
def ptOf (b : Fin 4) (s : Fin 8192) : Fin cfg0.N := ⟨16 * b.val + s.val / 512, lt_of_lt_of_eq (by omega : _ < 64) N_0.symm⟩

theorem bOf_pt (b : Fin 4) (s : Fin 8192) : bOf (ptOf b s) = b := Fin.ext (by show (16 * b.val + s.val / 512) / 16 = b.val; omega)
theorem sOf_pt (b : Fin 4) (s : Fin 8192) : sOf (ptOf b s) ⟨s.val % 512, Nat.mod_lt _ (by decide)⟩ = s :=
  Fin.ext (by show (16 * b.val + s.val / 512) % 16 * 512 + s.val % 512 = s.val; omega)

/-- A tile's residual sum is the whole arrays' at the point's batch row and token. -/
theorem resid_blk (c : Dev nD) (t : Fin cfg0.N) (r : Fin 512) (l : Fin 1024) :
    resid (iblk m c 1 t) (iblk m c 3 t) (iblk m c 2 t) (iblk m c 4 t) (iblk m c 0 t) (iblk m c 5 t) r l
      = Cert.Reference2Ideal.Proj.resid (in0 m c) (in1 m c) (in2 m c) (in3 m c) (in7 m c) (bOf t) (sOf t r) l := by
  unfold resid Cert.Reference2Ideal.Proj.resid
  simp only [blk0_at, blk1_at, blk2_at, blk3_at, blk4_at, blk5_at]

theorem res11_at (c : Dev nD) (b : Fin 4) (s : Fin 8192) (l : Fin 1024) :
    ((dats m 0 c).arrAt 11 cfg0.N : FVec Ideal S4x8192x1024 .f32) (ix3 b s l)
      = Cert.Reference2Ideal.Proj.resid (in0 m c) (in1 m c) (in2 m c) (in3 m c) (in7 m c) b s l := by
  have hf : (cfg0.win 11).flush (ptOf b s) = true := (by decide +kernel : ∀ t : Fin grid0.N, (cfg0.win 11).flush t = true) (ptOf b s)
  have h := congrFun (Value.blocks11 m c (ptOf b s) hf) (ix3 0 ⟨s.val % 512, Nat.mod_lt _ (by decide)⟩ l)
  rw [View.read_apply, Value.flushed11] at h
  obtain ⟨e0, e1, e2⟩ := (idx_tok (ptOf b s)).2.2.2.1
  have hidx : (((cfg0.win 11).blk (ptOf b s)).view.emb (ix3 0 ⟨s.val % 512, Nat.mod_lt _ (by decide)⟩ l) : S4x8192x1024.Idx) = ix3 b s l := by
    funext a
    apply Fin.ext
    have hv : (ptOf b s).val = 16 * b.val + s.val / 512 := rfl
    match a with
    | ⟨0, _⟩ => show win0_11.index (ptOf b s) 0 * 1 + 1 * 0 = b.val; omega
    | ⟨1, _⟩ => show win0_11.index (ptOf b s) 1 * 512 + 1 * (s.val % 512) = s.val; omega
    | ⟨2, _⟩ => show win0_11.index (ptOf b s) 2 * 1024 + 1 * l.val = l.val; omega
  refine (congrArg ((dats m 0 c).arrAt 11 cfg0.N : FVec Ideal S4x8192x1024 .f32) hidx.symm).trans (h.trans ?_)
  show (out0_11 (iblk m c 0 (ptOf b s)) (iblk m c 1 (ptOf b s)) (iblk m c 2 (ptOf b s)) (iblk m c 3 (ptOf b s)) (iblk m c 4 (ptOf b s)) (iblk m c 5 (ptOf b s)) (iblk m c 6 (ptOf b s)) (iblk m c 7 (ptOf b s)) (iblk m c 8 (ptOf b s)) (iblk m c 9 (ptOf b s)) (iblk m c 10 (ptOf b s)) : Vec Ideal S1x512x1024 .f32) (ix3 0 ⟨s.val % 512, Nat.mod_lt _ (by decide)⟩ l) = _
  unfold out0_11
  rw [View.canon_unit_zero hz3]
  simp only [View.ld_unit_zero (S := S1x512x512) hz3, View.ld_unit_zero (S := S512x1024) hz2, View.ld_unit_zero (S := S1x512x1024) hz3, View.ld_unit_zero (S := S1x1x1024) hz3]
  rw [pay3_at, resid_blk, bOf_pt, sOf_pt]

theorem res12_at (c : Dev nD) (b : Fin 4) (s : Fin 8192) (l : Fin 1024) :
    ((dats m 0 c).arrAt 12 cfg0.N : FVec Ideal S4x8192x1024 .bf16) (ix3 b s l)
      = Cert.Reference2Ideal.Proj.term2 (in0 m c) (in1 m c) (in2 m c) (in3 m c) (in4 m c) (in5 m c) (in6 m c) (in7 m c) (ix3 b s l) := by
  have hf : (cfg0.win 12).flush (ptOf b s) = true := (by decide +kernel : ∀ t : Fin grid0.N, (cfg0.win 12).flush t = true) (ptOf b s)
  have h := congrFun (Value.blocks12 m c (ptOf b s) hf) (ix3 0 ⟨s.val % 512, Nat.mod_lt _ (by decide)⟩ l)
  rw [View.read_apply, Value.flushed12] at h
  obtain ⟨e0, e1, e2⟩ := (idx_tok (ptOf b s)).2.2.2.2
  have hidx : (((cfg0.win 12).blk (ptOf b s)).view.emb (ix3 0 ⟨s.val % 512, Nat.mod_lt _ (by decide)⟩ l) : S4x8192x1024.Idx) = ix3 b s l := by
    funext a
    apply Fin.ext
    have hv : (ptOf b s).val = 16 * b.val + s.val / 512 := rfl
    match a with
    | ⟨0, _⟩ => show win0_12.index (ptOf b s) 0 * 1 + 1 * 0 = b.val; omega
    | ⟨1, _⟩ => show win0_12.index (ptOf b s) 1 * 512 + 1 * (s.val % 512) = s.val; omega
    | ⟨2, _⟩ => show win0_12.index (ptOf b s) 2 * 1024 + 1 * l.val = l.val; omega
  refine (congrArg ((dats m 0 c).arrAt 12 cfg0.N : FVec Ideal S4x8192x1024 .bf16) hidx.symm).trans (h.trans ?_)
  show (out0_12 (iblk m c 0 (ptOf b s)) (iblk m c 1 (ptOf b s)) (iblk m c 2 (ptOf b s)) (iblk m c 3 (ptOf b s)) (iblk m c 4 (ptOf b s)) (iblk m c 5 (ptOf b s)) (iblk m c 6 (ptOf b s)) (iblk m c 7 (ptOf b s)) (iblk m c 8 (ptOf b s)) (iblk m c 9 (ptOf b s)) (iblk m c 10 (ptOf b s)) : Vec Ideal S1x512x1024 .bf16) (ix3 0 ⟨s.val % 512, Nat.mod_lt _ (by decide)⟩ l) = _
  unfold out0_12 k0_pay17
  rw [View.canon_unit_zero hz3]
  simp only [View.ld_unit_zero (S := S1x512x512) hz3, View.ld_unit_zero (S := S512x1024) hz2, View.ld_unit_zero (S := S1x512x1024) hz3, View.ld_unit_zero (S := S1x1x1024) hz3, View.ld_unit_zero (S := S1x1024) hz2]
  rw [pay7_at, pay4_at, blk6_at, blk7_at, blk8_at, Cert.Reference2Ideal.Proj.term2_at]
  simp only [resid_blk]
  rw [bOf_pt, sOf_pt]

end Cert.Kernel2Ideal.Proj
-- ==== Proof.A.Res.lean ====
/- The modulation's run with its result named, and that result at an index. -/
module

public import proofs.«01_k».proof.Proof.Gen.Kernel3Ideal.Frame
public import Idealize.ShloMosaic.Lib.Pointwise
public import Idealize.ShloMosaic.Lib.StableHlo.Run
public import Idealize.ShloMosaic.Lib.Pipeline.Value

@[expose] public section

set_option maxRecDepth 16384

noncomputable section

namespace Cert.Kernel3Ideal.Mod

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg)

theorem hz2 : (![0, 0] : Fin 2 → Nat) = fun _ => 0 := funext fun a => by fin_cases a <;> rfl

set_option maxHeartbeats 400000 in
theorem pay1_at (x : Vec Ideal S8x1024 .f32) (w : Vec Ideal S1024x1024 .f32) (b : Vec Ideal S1x1024 .f32) (r : Fin 8) (l : Fin 1024) :
    (k0_pay1 x w b) (ix2 r l) = (∑ k : Fin 1024, x (ix2 r k) * Ideal.logistic (x (ix2 r k)) * w (ix2 k l)) + b (ix2 0 l) := by
  pointwise [Gen.k0_pay1]

/-- The arguments' launch contents on core `c`, typed as arrays of extended reals. -/
abbrev in0 (c : Dev nD) : FVec Ideal S4x1024 .f32 := m ((c : Thread nD τ).loc main_arg0)
abbrev in1 (c : Dev nD) : FVec Ideal S1024x6144 .f32 := m ((c : Thread nD τ).loc main_arg1)
abbrev in2 (c : Dev nD) : FVec Ideal S6144 .f32 := m ((c : Thread nD τ).loc main_arg2)

/-- The conditioning rows, padded with zero rows. -/
def pad (x : FVec Ideal S4x1024 .f32) : FVec Ideal S8x1024 .f32 :=
  concatenate S8x1024 0 [⟨S4x1024, x⟩, ⟨S4x1024, broadcastInDim S4x1024 ![] bcast_S_S4x1024 (constant S_ .f32 0x00000000#32)⟩] concatenates_S4x1024_S4x1024_S8x1024_d0

theorem pad_at (x : FVec Ideal S4x1024 .f32) (b : Fin 4) (k : Fin 1024) : pad x (ix2 ⟨b.val, by omega⟩ k) = x (ix2 b k) := by
  pointwise [pad]

theorem V_v1 (c : Dev nD) : @Eq (FVec Ideal S8x1024 .f32) (V m c main_v1) (pad (in0 m c)) := by
  unfold V V0 hostOps0
  after_results
  all_goals rfl
theorem V_v2 (c : Dev nD) : @Eq (FVec Ideal S1x6144 .f32) (V m c main_v2) (broadcastInDim S1x6144 ![1] bcast_S6144_S1x6144_1 (in2 m c)) := by
  unfold V V0 hostOps0
  after_results
  all_goals rfl

theorem idx_facts : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N, _)

/-- The column of a grid point's tile. -/
def col (t : Fin cfg0.N) (l : Fin 1024) : Fin 6144 := ⟨t.val * 1024 + l.val, by have := lt_of_lt_of_eq t.isLt N_0; omega⟩

theorem blk0_at (c : Dev nD) (t : Fin cfg0.N) (b : Fin 4) (k : Fin 1024) :
    (iblk m c 0 t : Vec Ideal S8x1024 .f32) (ix2 ⟨b.val, by omega⟩ k) = in0 m c (ix2 b k) := by
  obtain ⟨e0, e1⟩ := (idx_facts t).1
  unfold iblk
  rw [View.read_apply]
  refine (congrFun (V_v1 m c) _).trans ?_
  have hidx : (((cfg0.win 0).blk t).view.emb (ix2 ⟨b.val, by omega⟩ k) : S8x1024.Idx) = ix2 ⟨b.val, by omega⟩ k := by
    funext a
    apply Fin.ext
    match a with
    | ⟨0, _⟩ => show win0_0.index t 0 * 8 + 1 * b.val = b.val; omega
    | ⟨1, _⟩ => show win0_0.index t 1 * 1024 + 1 * k.val = k.val; omega
  exact (congrArg _ hidx).trans (pad_at _ b k)

theorem blk1_at (c : Dev nD) (t : Fin cfg0.N) (k l : Fin 1024) :
    (iblk m c 1 t : Vec Ideal S1024x1024 .f32) (ix2 k l) = in1 m c (ix2 k (col t l)) := by
  obtain ⟨e0, e1⟩ := (idx_facts t).2.1
  unfold iblk
  rw [View.read_apply]
  refine (congrFun (V_main_arg1 m c) _).trans (congrArg _ ?_)
  funext a
  apply Fin.ext
  match a with
  | ⟨0, _⟩ => show win0_1.index t 0 * 1024 + 1 * k.val = k.val; omega
  | ⟨1, _⟩ => show win0_1.index t 1 * 1024 + 1 * l.val = t.val * 1024 + l.val; omega

theorem blk2_at (c : Dev nD) (t : Fin cfg0.N) (l : Fin 1024) :
    (iblk m c 2 t : Vec Ideal S1x1024 .f32) (ix2 0 l) = in2 m c (ix1 (col t l)) := by
  obtain ⟨e0, e1⟩ := (idx_facts t).2.2.1
  unfold iblk
  rw [View.read_apply]
  refine (congrFun (V_v2 m c) _).trans ?_
  have hidx : (((cfg0.win 2).blk t).view.emb (ix2 0 l) : S1x6144.Idx) = ix2 0 (col t l) := by
    funext a
    apply Fin.ext
    match a with
    | ⟨0, _⟩ => show win0_2.index t 0 * 1 + 1 * 0 = 0; omega
    | ⟨1, _⟩ => show win0_2.index t 1 * 1024 + 1 * l.val = t.val * 1024 + l.val; omega
  refine (congrArg _ hidx).trans ?_
  pointwise

theorem idx_inj3 : ∀ t t' : Fin cfg0.N, win0_3.index t = win0_3.index t' → t = t' :=
  (by decide +kernel : ∀ t t' : Fin grid0.N, win0_3.index t = win0_3.index t' → t = t')

theorem blocks3 (c : Dev nD) (t : Fin cfg0.N) :
    ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (idx_inj3 t t' h)) cfg0.N t t.isLt (flush0_3 t)

theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The grid point and the tile's column of a column. -/
def ptOf (l : Fin 6144) : Fin cfg0.N := ⟨l.val / 1024, lt_of_lt_of_eq (by omega : _ < 6) N_0.symm⟩
theorem col_pt (l : Fin 6144) : col (ptOf l) ⟨l.val % 1024, Nat.mod_lt _ (by decide)⟩ = l :=
  Fin.ext (by show l.val / 1024 * 1024 + l.val % 1024 = l.val; omega)

theorem arr3_at (c : Dev nD) (b : Fin 4) (l : Fin 6144) :
    ((dats m 0 c).arrAt 3 cfg0.N : FVec Ideal S8x6144 .f32) (ix2 ⟨b.val, by omega⟩ l)
      = (∑ k : Fin 1024, in0 m c (ix2 b k) * Ideal.logistic (in0 m c (ix2 b k)) * in1 m c (ix2 k l)) + in2 m c (ix1 l) := by
  have h := congrFun (blocks3 m c (ptOf l)) (ix2 ⟨b.val, by omega⟩ ⟨l.val % 1024, Nat.mod_lt _ (by decide)⟩)
  rw [View.read_apply, flushed3] at h
  obtain ⟨e0, e1⟩ := (idx_facts (ptOf l)).2.2.2
  have hidx : (((cfg0.win 3).blk (ptOf l)).view.emb (ix2 ⟨b.val, by omega⟩ ⟨l.val % 1024, Nat.mod_lt _ (by decide)⟩) : S8x6144.Idx) = ix2 ⟨b.val, by omega⟩ l := by
    funext a
    apply Fin.ext
    have hv : (ptOf l).val = l.val / 1024 := rfl
    match a with
    | ⟨0, _⟩ => show win0_3.index (ptOf l) 0 * 8 + 1 * b.val = b.val; omega
    | ⟨1, _⟩ => show win0_3.index (ptOf l) 1 * 1024 + 1 * (l.val % 1024) = l.val; omega
  refine (congrArg ((dats m 0 c).arrAt 3 cfg0.N : FVec Ideal S8x6144 .f32) hidx.symm).trans (h.trans ?_)
  show (out0_3 (iblk m c 0 (ptOf l)) (iblk m c 1 (ptOf l)) (iblk m c 2 (ptOf l)) : Vec Ideal S8x1024 .f32) (ix2 ⟨b.val, by omega⟩ ⟨l.val % 1024, Nat.mod_lt _ (by decide)⟩) = _
  unfold out0_3
  rw [View.canon_unit_zero hz2]
  simp only [View.ld_unit_zero (S := S8x1024) hz2, View.ld_unit_zero (S := S1024x1024) hz2, View.ld_unit_zero (S := S1x1024) hz2]
  rw [pay1_at]
  simp only [blk0_at, blk1_at, blk2_at, col_pt]

/-- The result: the first four rows of the call's array. -/
def res (c : Dev nD) : FVec Ideal S4x6144 .f32 :=
  extractStridedSlice S4x6144 ![0, 0] ((dats m 0 c).arrAt 3 cfg0.N : FVec Ideal S8x6144 .f32) slices_S8x6144_S4x6144_0_0

theorem res_at (c : Dev nD) (b : Fin 4) (l : Fin 6144) :
    res m c (ix2 b l)
      = (∑ k : Fin 1024, in0 m c (ix2 b k) * Ideal.logistic (in0 m c (ix2 b k)) * in1 m c (ix2 k l)) + in2 m c (ix1 l) := by
  rw [← arr3_at]
  pointwise [res]

/-- The line after the region slices the call's array. -/
theorem tail_v4 (c : Dev nD) : @Eq (FVec Ideal S4x6144 .f32) (Pipeline.afterTail₀ cfgs (dats m) 0 (V0 m) [hostOps1] c main_v4) (res m c) := by
  have e : @Eq (FVec Ideal S8x6144 .f32) (Pipeline.withArrays spec0 c (V0 m c) (fun w => (dats m 0 c).arrAt w cfg0.N) (Proc.devRef .tc main_v3)) ((dats m 0 c).arrAt 3 cfg0.N) :=
    Pipeline.withArrays_arr spec0 launch0.win.arr_inj c (V0 m c) (fun w => (dats m 0 c).arrAt w cfg0.N) 3
  unfold Pipeline.afterTail₀ hostOps1 res
  rw [← e]
  after_results
  all_goals rfl

theorem run : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v4 (Pipeline.mem_restRefs_of main_v4 (by decide) (by decide))).trans (tail_v4 m c), h.2 c⟩)
    (θ_run_and (run_main m ρ) (unchanged m ρ))

end Cert.Kernel3Ideal.Mod
-- ==== Proof.A.Ref.lean ====
/- The modulation reference's result read at an index, over the extended reals. -/
module

public import proofs.«01_k».proof.Proof.Gen.Reference3Ideal.Run
public import Idealize.ShloMosaic.Lib.Pointwise

@[expose] public section

set_option maxRecDepth 16384

noncomputable section

namespace Cert.Reference3Ideal.Mod

open Cert.Reference3Ideal Cert.Reference3Ideal.Gen Idealize.ShloMosaic

/-- The reference's operations composed, of its three arguments. -/
def term (a0 : FVec Ideal S4x1024 .f32) (a1 : FVec Ideal S1024x6144 .f32) (a2 : FVec Ideal S6144 .f32) : FVec Ideal S4x6144 .f32 :=
  addf (Host.dotGeneral dot_S4x1024_S1024x6144_S4x6144_1_0_0_1_n_n none (mulf a0 (Host.divf (broadcastInDim S4x1024 ![] bcast_S_S4x1024 (constant S_ .f32 0x3F800000#32)) (addf (broadcastInDim S4x1024 ![] bcast_S_S4x1024 (constant S_ .f32 0x3F800000#32)) (Host.exp (Host.negf a0))))) a1) (broadcastInDim S4x6144 ![0, 1] bcast_S1x6144_S4x6144_0_1 (broadcastInDim S1x6144 ![1] bcast_S6144_S1x6144_1 a2))

set_option maxHeartbeats 800000 in
theorem term_at (a0 : FVec Ideal S4x1024 .f32) (a1 : FVec Ideal S1024x6144 .f32) (a2 : FVec Ideal S6144 .f32) (b : Fin 4) (l : Fin 6144) :
    term a0 a1 a2 (ix2 b l)
      = (∑ k : Fin 1024, a0 (ix2 b k) * Ideal.logistic (a0 (ix2 b k)) * a1 (ix2 k l)) + a2 (ix1 l) := by
  pointwise [term]
  rfl

end Cert.Reference3Ideal.Mod
-- ==== Proof.lean ====
/- The claims of `Cert.Claim`: the runs end with the arguments unchanged, and over the extended reals the kernel's result
   is the reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_gates_nonneg
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.M.Fold
public import proofs.«01_k».proof.Proof.M.Ref
public import proofs.«01_k».proof.Proof.M.Pre
public import proofs.«01_k».proof.Proof.O.Res
public import proofs.«01_k».proof.Proof.A.Res
public import proofs.«01_k».proof.Proof.A.Ref
public import Idealize.ShloMosaic.Lib.Quiescent

@[expose] public section

noncomputable section

namespace Cert.Proof

open Idealize.ShloMosaic Idealize.SL.Sem

/-- The reference's run ends, its arguments unchanged, its counters zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are one array where the gates are nonnegative and finite. -/
theorem algebraic_moe : algebraic_KernelIdeal_ReferenceIdeal_pre_gates_nonneg := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  show Cert.ReferenceIdeal.Moe.term (Cert.KernelIdeal.Moe.in0 m c) (Cert.KernelIdeal.Moe.in1 m c) (Cert.KernelIdeal.Moe.in2 m c)
    (Cert.KernelIdeal.Moe.in3 m c) (Cert.KernelIdeal.Moe.in4 m c) (Cert.KernelIdeal.Moe.in5 m c) (Cert.KernelIdeal.Moe.in6 m c) = _
  funext i
  obtain ⟨b, s, l, rfl⟩ : ∃ (b : Fin 4) (s : Fin 8192) (l : Fin 1024), i = ix3 b s l := ⟨i 0, i 1, i 2, eq_ix3 i⟩
  rw [Cert.ReferenceIdeal.Moe.term_at]
  exact (Cert.KernelIdeal.Moe.result_at m c
    (Cert.Pre_gates_nonneg.Moe.gates_of_fn _ _ _ _ _ _ _ (hpre c)) b s l).symm

/-- The projection reference's run ends, its arguments unchanged, its counters zero. -/
theorem reference2_frame : quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The output projection's residual and normalised row are the reference's. -/
theorem algebraic_proj : algebraic_Kernel2Ideal_Reference2Ideal := by
  intro m ρ m' ρ' _ hagree
  refine ⟨_, _, (θ_run Cert.Kernel2Ideal.defs _ _).mono (fun _ h c => ⟨(h c).1, (h c).2.1, (h c).2.2.2⟩)
    (Cert.Kernel2Ideal.Value.run_blocks (F := Ideal) m ρ), ?_⟩
  refine (θ_run Cert.Reference2Ideal.defs _ _).mono (fun _ h c => ⟨?_, ?_, (h c).2.2⟩) (Cert.Reference2Ideal.Value.run (F := Ideal) m' ρ')
  all_goals obtain ⟨h0, h1, h2, h3, h4, h5, h6, h7, -⟩ := hagree c
  · refine (h c).1.trans ?_
    show Cert.Reference2Ideal.Proj.term1 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg7)) = _
    rw [h0, h1, h2, h3, h7]
    funext i
    obtain ⟨b, s, l, rfl⟩ : ∃ (b : Fin 4) (s : Fin 8192) (l : Fin 1024), i = ix3 b s l := ⟨i 0, i 1, i 2, eq_ix3 i⟩
    exact (Cert.Reference2Ideal.Proj.term1_at _ _ _ _ _ b s l).trans (Cert.Kernel2Ideal.Proj.res11_at m c b s l).symm
  · refine (h c).2.1.trans ?_
    show Cert.Reference2Ideal.Proj.term2 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [h0, h1, h2, h3, h4, h5, h6, h7]
    funext i
    obtain ⟨b, s, l, rfl⟩ : ∃ (b : Fin 4) (s : Fin 8192) (l : Fin 1024), i = ix3 b s l := ⟨i 0, i 1, i 2, eq_ix3 i⟩
    exact (Cert.Kernel2Ideal.Proj.res12_at m c b s l).symm

/-- The modulation reference's run ends, its arguments unchanged, its counters zero. -/
theorem reference3_frame : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The modulation is the reference's. -/
theorem algebraic_mod : algebraic_Kernel3Ideal_Reference3Ideal := by
  intro m ρ m' ρ' _ hagree
  refine ⟨_, Cert.Kernel3Ideal.Mod.run m ρ, ?_⟩
  refine (θ_run Cert.Reference3Ideal.defs _ _).mono (fun _ h c => ⟨?_, (h c).2⟩) (Cert.Reference3Ideal.Value.run (F := Ideal) m' ρ')
  obtain ⟨h0, h1, h2⟩ := hagree c
  refine (h c).1.trans ?_
  show Cert.Reference3Ideal.Mod.term (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
  rw [h0, h1, h2]
  funext i
  obtain ⟨b, l, rfl⟩ : ∃ (b : Fin 4) (l : Fin 6144), i = ix2 b l := ⟨i 0, i 1, eq_ix2 i⟩
  exact (Cert.Reference3Ideal.Mod.term_at _ _ _ b l).trans (Cert.Kernel3Ideal.Mod.res_at m c b l).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_gates_nonneg.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  (trivial : preserves_Kernel_KernelIdeal), algebraic_moe, (trivial : preserves_Kernel2_Kernel2Ideal), algebraic_proj,
  (trivial : preserves_Kernel3_Kernel3Ideal), algebraic_mod⟩

end Cert.Proof

end
